-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S16x1x1024 : Shape := ⟨3, ![16, 1, 1024]⟩
abbrev S8 : Shape := ⟨1, ![8]⟩
abbrev S16 : Shape := ⟨1, ![16]⟩
abbrev S_ : Shape := ⟨0, ![]⟩
abbrev S1 : Shape := ⟨1, ![1]⟩
abbrev S256x1024 : Shape := ⟨2, ![256, 1024]⟩
abbrev S1024 : Shape := ⟨1, ![1024]⟩
abbrev S1x1x1024 : Shape := ⟨3, ![1, 1, 1024]⟩
abbrev S128x128 : Shape := ⟨2, ![128, 128]⟩
abbrev S128x1024 : Shape := ⟨2, ![128, 1024]⟩
abbrev S16x1024 : Shape := ⟨2, ![16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S16x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_152 : BitVec 32 := 1#32
  let v164 : BitVec 32 := Scalar.addi v2 c1_i32_152
  let c16_i32_153 : BitVec 32 := 16#32
  let v165 : BitVec 32 := Scalar.remsi v164 c16_i32_153
  let c1_i32_157 : BitVec 32 := 1#32
  let v166 : BitVec 32 := Scalar.muli v165 c1_i32_157
  let v167 : BitVec 32 := Scalar.addi c0_i32_158 v166
  v167.toNat
def k0_dev17 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_161 : BitVec 32 := 2#32
  let v174 : BitVec 32 := Scalar.addi v2 c2_i32_161
  let c16_i32_162 : BitVec 32 := 16#32
  let v175 : BitVec 32 := Scalar.remsi v174 c16_i32_162
  let c1_i32_166 : BitVec 32 := 1#32
  let v176 : BitVec 32 := Scalar.muli v175 c1_i32_166
  let v177 : BitVec 32 := Scalar.addi c0_i32_167 v176
  v177.toNat
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_170 : BitVec 32 := 3#32
  let v184 : BitVec 32 := Scalar.addi v2 c3_i32_170
  let c16_i32_171 : BitVec 32 := 16#32
  let v185 : BitVec 32 := Scalar.remsi v184 c16_i32_171
  let c1_i32_175 : BitVec 32 := 1#32
  let v186 : BitVec 32 := Scalar.muli v185 c1_i32_175
  let v187 : BitVec 32 := Scalar.addi c0_i32_176 v186
  v187.toNat
def k0_dev19 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_179 : BitVec 32 := 4#32
  let v194 : BitVec 32 := Scalar.addi v2 c4_i32_179
  let c16_i32_180 : BitVec 32 := 16#32
  let v195 : BitVec 32 := Scalar.remsi v194 c16_i32_180
  let c1_i32_184 : BitVec 32 := 1#32
  let v196 : BitVec 32 := Scalar.muli v195 c1_i32_184
  let v197 : BitVec 32 := Scalar.addi c0_i32_185 v196
  v197.toNat
def k0_dev20 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_188 : BitVec 32 := 5#32
  let v204 : BitVec 32 := Scalar.addi v2 c5_i32_188
  let c16_i32_189 : BitVec 32 := 16#32
  let v205 : BitVec 32 := Scalar.remsi v204 c16_i32_189
  let c1_i32_193 : BitVec 32 := 1#32
  let v206 : BitVec 32 := Scalar.muli v205 c1_i32_193
  let v207 : BitVec 32 := Scalar.addi c0_i32_194 v206
  v207.toNat
def k0_dev21 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_197 : BitVec 32 := 6#32
  let v214 : BitVec 32 := Scalar.addi v2 c6_i32_197
  let c16_i32_198 : BitVec 32 := 16#32
  let v215 : BitVec 32 := Scalar.remsi v214 c16_i32_198
  let c1_i32_202 : BitVec 32 := 1#32
  let v216 : BitVec 32 := Scalar.muli v215 c1_i32_202
  let v217 : BitVec 32 := Scalar.addi c0_i32_203 v216
  v217.toNat
def k0_dev22 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_206 : BitVec 32 := 7#32
  let v224 : BitVec 32 := Scalar.addi v2 c7_i32_206
  let c16_i32_207 : BitVec 32 := 16#32
  let v225 : BitVec 32 := Scalar.remsi v224 c16_i32_207
  let c1_i32_211 : BitVec 32 := 1#32
  let v226 : BitVec 32 := Scalar.muli v225 c1_i32_211
  let v227 : BitVec 32 := Scalar.addi c0_i32_212 v226
  v227.toNat
def k0_dev23 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_215 : BitVec 32 := 8#32
  let v234 : BitVec 32 := Scalar.addi v2 c8_i32_215
  let c16_i32_216 : BitVec 32 := 16#32
  let v235 : BitVec 32 := Scalar.remsi v234 c16_i32_216
  let c1_i32_220 : BitVec 32 := 1#32
  let v236 : BitVec 32 := Scalar.muli v235 c1_i32_220
  let v237 : BitVec 32 := Scalar.addi c0_i32_221 v236
  v237.toNat
def k0_dev24 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_224 : BitVec 32 := 9#32
  let v244 : BitVec 32 := Scalar.addi v2 c9_i32_224
  let c16_i32_225 : BitVec 32 := 16#32
  let v245 : BitVec 32 := Scalar.remsi v244 c16_i32_225
  let c1_i32_229 : BitVec 32 := 1#32
  let v246 : BitVec 32 := Scalar.muli v245 c1_i32_229
  let v247 : BitVec 32 := Scalar.addi c0_i32_230 v246
  v247.toNat
def k0_dev25 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_233 : BitVec 32 := 10#32
  let v254 : BitVec 32 := Scalar.addi v2 c10_i32_233
  let c16_i32_234 : BitVec 32 := 16#32
  let v255 : BitVec 32 := Scalar.remsi v254 c16_i32_234
  let c1_i32_238 : BitVec 32 := 1#32
  let v256 : BitVec 32 := Scalar.muli v255 c1_i32_238
  let v257 : BitVec 32 := Scalar.addi c0_i32_239 v256
  v257.toNat
def k0_dev26 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_242 : BitVec 32 := 11#32
  let v264 : BitVec 32 := Scalar.addi v2 c11_i32_242
  let c16_i32_243 : BitVec 32 := 16#32
  let v265 : BitVec 32 := Scalar.remsi v264 c16_i32_243
  let c1_i32_247 : BitVec 32 := 1#32
  let v266 : BitVec 32 := Scalar.muli v265 c1_i32_247
  let v267 : BitVec 32 := Scalar.addi c0_i32_248 v266
  v267.toNat
def k0_dev27 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_251 : BitVec 32 := 12#32
  let v274 : BitVec 32 := Scalar.addi v2 c12_i32_251
  let c16_i32_252 : BitVec 32 := 16#32
  let v275 : BitVec 32 := Scalar.remsi v274 c16_i32_252
  let c1_i32_256 : BitVec 32 := 1#32
  let v276 : BitVec 32 := Scalar.muli v275 c1_i32_256
  let v277 : BitVec 32 := Scalar.addi c0_i32_257 v276
  v277.toNat
def k0_dev28 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_260 : BitVec 32 := 13#32
  let v284 : BitVec 32 := Scalar.addi v2 c13_i32_260
  let c16_i32_261 : BitVec 32 := 16#32
  let v285 : BitVec 32 := Scalar.remsi v284 c16_i32_261
  let c1_i32_265 : BitVec 32 := 1#32
  let v286 : BitVec 32 := Scalar.muli v285 c1_i32_265
  let v287 : BitVec 32 := Scalar.addi c0_i32_266 v286
  v287.toNat
def k0_dev29 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_269 : BitVec 32 := 14#32
  let v294 : BitVec 32 := Scalar.addi v2 c14_i32_269
  let c16_i32_270 : BitVec 32 := 16#32
  let v295 : BitVec 32 := Scalar.remsi v294 c16_i32_270
  let c1_i32_274 : BitVec 32 := 1#32
  let v296 : BitVec 32 := Scalar.muli v295 c1_i32_274
  let v297 : BitVec 32 := Scalar.addi c0_i32_275 v296
  v297.toNat
def k0_dev30 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_278 : BitVec 32 := 15#32
  let v304 : BitVec 32 := Scalar.addi v2 c15_i32_278
  let c16_i32_279 : BitVec 32 := 16#32
  let v305 : BitVec 32 := Scalar.remsi v304 c16_i32_279
  let c1_i32_283 : BitVec 32 := 1#32
  let v306 : BitVec 32 := Scalar.muli v305 c1_i32_283
  let v307 : BitVec 32 := Scalar.addi c0_i32_284 v306
  v307.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S_, .f32⟩
  | .hbm, ⟨3, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Mesh.lean ====
/-
  The mesh of 16 devices, the buffers and semaphores of the kernel's exchange, and who pays which cell.

  Every device sends its row of column totals to the 15 others.  Device `c` sends to the device `k` places
  after it, `peer c k`, which receives in slot `k` of its receive buffer; so slot `k` of device `c` is
  filled by the device `k` places before it, `back c k`.  Before it sends, a device waits for a unit from
  each of the 15 others; the unit from `peer c k` says that slot `k` of `peer c k` is free.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The offsets and the devices they name -/

set_option backward.proofsInPublic true in
/-- The device `k` places after `c`. -/
def peer (c : Dev nD) (k : Fin 16) : Dev nD := ⟨(c.val + k.val) % 16, Nat.mod_lt _ (by decide)⟩
set_option backward.proofsInPublic true in
/-- The device `k` places before `c`. -/
def back (c : Dev nD) (k : Fin 16) : Dev nD := ⟨(c.val + (16 - k.val)) % 16, Nat.mod_lt _ (by decide)⟩
set_option backward.proofsInPublic true in
/-- The offset that leads back from `peer c k` to `c`. -/
def opp (k : Fin 16) : Fin 16 := ⟨(16 - k.val) % 16, Nat.mod_lt _ (by decide)⟩

theorem back_peer (c : Dev nD) (k : Fin 16) : back (peer c k) k = c :=
  Fin.ext (by have := c.isLt; simp only [back, peer]; have : c.val < 16 := c.isLt; omega)
theorem peer_back (c : Dev nD) (k : Fin 16) : peer (back c k) k = c :=
  Fin.ext (by simp only [back, peer]; have : c.val < 16 := c.isLt; omega)
theorem peer_opp (c : Dev nD) (k : Fin 16) : peer (peer c k) (opp k) = c :=
  Fin.ext (by simp only [peer, opp]; have : c.val < 16 := c.isLt; omega)
theorem opp_opp (k : Fin 16) : opp (opp k) = k := by revert k; decide
theorem opp_val {k : Fin 16} (h : 0 < k.val) : (opp k).val = 16 - k.val := by
  simp only [opp]; have := k.isLt; omega

/-- Going `k` places on, as a permutation of the devices. -/
def turn (k : Fin 16) : Dev nD ≃ Dev nD := ⟨fun c => peer c k, fun c => back c k, fun c => back_peer c k, fun c => peer_back c k⟩
/-- The opposite offset, as a permutation of the offsets. -/
def oppE : Fin 16 ≃ Fin 16 := ⟨opp, opp, opp_opp, opp_opp⟩

/-- The numbers from `n` on. -/
def since {K : ℕ} (n : ℕ) : Finset (Fin K) := Finset.univ.filter fun k => n ≤ k.val
/-- The numbers from `lo` up to `n`, `n` not among them. -/
def mid {K : ℕ} (lo n : ℕ) : Finset (Fin K) := Finset.univ.filter fun k => lo ≤ k.val ∧ k.val < n

theorem mem_since {K n : ℕ} {k : Fin K} : k ∈ since n ↔ n ≤ k.val := by simp [since]
theorem mem_mid {K lo n : ℕ} {k : Fin K} : k ∈ mid lo n ↔ lo ≤ k.val ∧ k.val < n := by simp [mid]

theorem since_eq {K : ℕ} (k : Fin K) : since k.val = insert k (since (k.val + 1)) := by
  ext i; rw [Finset.mem_insert, mem_since, mem_since, Fin.ext_iff]; omega
theorem not_mem_since {K : ℕ} (k : Fin K) : k ∉ since (K := K) (k.val + 1) := by
  rw [mem_since]; omega
theorem mid_succ {K lo : ℕ} (k : Fin K) (h : lo ≤ k.val) : mid lo (k.val + 1) = insert k (mid lo k.val) := by
  ext i; rw [Finset.mem_insert, mem_mid, mem_mid, Fin.ext_iff]; omega
theorem not_mem_mid {K lo : ℕ} (k : Fin K) : k ∉ mid lo k.val := by rw [mem_mid]; omega
theorem since_zero {K : ℕ} : since (K := K) 0 = Finset.univ := by ext i; simp [mem_since]
theorem since_last {K : ℕ} : since (K := K) K = ∅ := by
  ext i; rw [mem_since]; simp
theorem mid_self {K lo : ℕ} : mid (K := K) lo lo = ∅ := by
  ext i; rw [mem_mid]; simp only [Finset.notMem_empty, iff_false]; omega
theorem mid_last {K lo : ℕ} : mid (K := K) lo K = since lo := by
  ext i; rw [mem_mid, mem_since]; exact ⟨fun h => h.1, fun h => ⟨h, i.isLt⟩⟩
theorem univ_eq_insert : (Finset.univ : Finset (Fin 16)) = insert 0 (since 1) := by decide
theorem zero_not_mem : (0 : Fin 16) ∉ since (K := 16) 1 := by decide
theorem card_since_one : (since (K := 16) 1).card = 15 := by decide
theorem opp_mem {k : Fin 16} (h : k ∈ since (K := 16) 1) : opp k ∈ since (K := 16) 1 := by
  rw [mem_since] at h ⊢; rw [opp_val h]; omega

/-! ## The buffers -/

/-- The kernel's argument, left in the device's main memory. -/
abbrev xA : Memref sig .tc .hbm S2048x1024 .f32 := Memref.whole main_arg0
/-- The staging buffer of the result. -/
abbrev oM : Memref sig .tc .vmem S2048x1024 .f32 := Memref.whole cc0_stg0_0
/-- The working copy of the argument. -/
abbrev wM : Memref sig .tc .vmem S2048x1024 .f32 := Memref.whole cc0_scratch0
/-- The row of column totals to send. -/
abbrev sM : Memref sig .tc .vmem S1x1024 .f32 := Memref.whole cc0_scratch1
/-- The 16 receive slots. -/
abbrev rM : Memref sig .tc .vmem S16x1x1024 .f32 := Memref.whole cc0_scratch2

theorem slot_inb (k : Fin 16) : ∀ a, (![k.val, 0, 0] : Fin 3 → Nat) a + S1x1x1024.size a ≤ S16x1x1024.size a := by
  revert k; decide
/-- Slot `k` of the receive buffer, as the kernel names it: one of the 16 slabs, its leading dimension dropped. -/
abbrev slotM (k : Fin 16) : Memref sig .tc .vmem S1x1024 .f32 :=
  (rM.slice (Rect.unit (s := S16x1x1024) ![k.val, 0, 0] S1x1x1024.size (slot_inb k)) (fun _ => rfl)).squeeze S1x1024 squeezes_S1x1x1024_S1x1024

theorem sems_inb (k : Fin 16) : ∀ a, (![k.val] : Fin 1 → Nat) a + S1.size a ≤ S16.size a := by
  revert k; decide
theorem ins_inb (j : Fin 8) : ∀ a, (![j.val] : Fin 1 → Nat) a + S1.size a ≤ S8.size a := by
  revert j; decide
/-- The semaphore of the row sent at offset `k`. -/
abbrev sendS (k : Fin 16) : DmaSem sig :=
  ((cc0_scratch4.slice (Rect.unit (s := S16) ![k.val] S1.size (sems_inb k))).squeeze S_ squeezes_S1_S_).sem
/-- The semaphore of the row received in slot `k`. -/
abbrev recvS (k : Fin 16) : DmaSem sig :=
  ((cc0_scratch5.slice (Rect.unit (s := S16) ![k.val] S1.size (sems_inb k))).squeeze S_ squeezes_S1_S_).sem
/-- The semaphore of the `j`-th piece of the argument copied in. -/
abbrev inS (j : Fin 8) : DmaSem sig :=
  ((cc0_scratch3.slice (Rect.unit (s := S8) ![j.val] S1.size (ins_inb j))).squeeze S_ squeezes_S1_S_).sem
/-- The barrier semaphore. -/
abbrev barS : Sem sig := (SemArray.scalar (sig.barrier 0 rfl) : Sems sig S_).sem

theorem sendS_val (k : Fin 16) : (sendS k).val = 9 + k.val := by revert k; decide
theorem recvS_val (k : Fin 16) : (recvS k).val = 25 + k.val := by revert k; decide
theorem inS_val (j : Fin 8) : (inS j).val = 1 + j.val := by revert j; decide

/-- The amount a row adds to a semaphore. -/
abbrev N : ℕ := (slotM 0).view.dmaCredit
theorem N_pos : 0 < N := View.dmaCredit_pos _ (by decide)

/-! ## The cells -/

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- The exchange's cells of one device: its barrier (`none`), its 16 send and its 16 receive semaphores. -/
abbrev CI := Option (Bool × Fin 16)
abbrev csem : CI → SemLoc sig
  | none => .reg barS
  | some (false, k) => .dma (sendS k)
  | some (true, k) => .dma (recvS k)
abbrev kcell (x : Dev nD × CI) : GSem nD τ sig := ((x.1 : Thread nD τ), csem x.2)

/-! ## The mesh's ghost state -/

abbrev UB := URounds (GSem nD τ sig) (Fin 16)
abbrev UU := UR sig nD τ × (UB × Counters)

end Cert.KernelIdeal.Exchange

end
-- ==== Proof.Sched.lean ====
/-
  The exchange's schedule: for every cell, who pays it, how much, and what the payment hands over.

  The schedule is stated for any rows `T`, one a device: the row device `c` sends to all the others.
-/
module

public import proofs.«01_k».proof.Proof.Mesh
public import Idealize.ShloMosaic.Lib.ShareLeaves
public import Idealize.ShloMosaic.Lib.Ring
public import Idealize.ShloMosaic.Lib.ValueIdxCore

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2)

variable {F : FTy → Type} [FloatOps F]

local notation "𝕄" => MT nD τ sig Unit (Elt F) ℕ UU ℕ

abbrev EP : Emb (UR sig nD τ) (MT nD τ sig Unit (Elt F) ℕ UU ℕ) := embL
/-- The rounds' ghost state: the left half of the second factor. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
/-- The local copies' ghost state. -/
abbrev EC : UEmb Counters (MT nD τ sig Unit (Elt F) ℕ UU ℕ) := countersEmb

/-! ## A family of resources, part of it changed -/

theorem bigSep_ins {I : Type} [DecidableEq I] {s : Finset I} {i : I} (hi : i ∉ s) (Φ : I → sProp 𝕄) :
    bigSep (insert i s) Φ = iprop(Φ i ∗ bigSep s Φ) := bigSep_insert hi

/-- The resources of the numbers from `lo` on, those below `n` in state `B` and the others still in state `A`. -/
def Front {K : ℕ} (lo : ℕ) (A B : Fin K → sProp 𝕄) (n : ℕ) : sProp 𝕄 := iprop(bigSep (since n) A ∗ bigSep (mid lo n) B)
/-- The same without number `k`. -/
def Rest {K : ℕ} (lo : ℕ) (A B : Fin K → sProp 𝕄) (k : Fin K) : sProp 𝕄 := iprop(bigSep (since (k.val + 1)) A ∗ bigSep (mid lo k.val) B)

theorem front_take {K lo : ℕ} (A B : Fin K → sProp 𝕄) (k : Fin K) :
    Front lo A B k.val ⊢ iprop(A k ∗ Rest lo A B k) := by
  unfold Front Rest
  rw [since_eq k, bigSep_ins (not_mem_since k)]
  iintro ⟨⟨H1, H2⟩, H3⟩
  isplitl [H1]; · iexact H1
  isplitl [H2] <;> iassumption
theorem front_put {K lo : ℕ} (A B : Fin K → sProp 𝕄) (k : Fin K) (h : lo ≤ k.val) :
    iprop(B k ∗ Rest lo A B k) ⊢ Front lo A B (k.val + 1) := by
  unfold Front Rest
  rw [mid_succ k h, bigSep_ins (not_mem_mid k)]
  iintro ⟨H1, H2, H3⟩
  isplitl [H2]; · iexact H2
  isplitl [H1] <;> iassumption
theorem front_start {K lo : ℕ} (A B : Fin K → sProp 𝕄) : bigSep (since lo) A ⊢ Front lo A B lo := by
  unfold Front; rw [mid_self, bigSep_empty]; iintro H; isplitl; · iexact H
  iempintro
theorem front_end {K lo : ℕ} (A B : Fin K → sProp 𝕄) : Front lo A B K ⊢ bigSep (since lo) B := by
  unfold Front; rw [mid_last, since_last, bigSep_empty]; iintro ⟨-, H⟩; iexact H

/-! ## The slots -/

/-- The place in a row of the same column as a place in the receive buffer. -/
def rowAt (i : S16x1x1024.Idx) : S1x1024.Idx := ix2 (0 : Fin 1) (i 2 : Fin 1024)

/-- Slot `k` placed in the receive buffer: slab `k`, same column. -/
theorem slot_emb (k : Fin 16) (x : S1x1024.Idx) (a : Fin 3) :
    (((slotM k).view.emb x : S16x1x1024.Idx) a).val = (![k.val, 0, (x 1).val] : Fin 3 → ℕ) a := by
  show (((Rect.unit (s := S16x1x1024) ![k.val, 0, 0] S1x1x1024.size (slot_inb k)).emb
    (Shape.reshapeEquiv squeezes_S1x1x1024_S1x1024.numel_eq x) : S16x1x1024.Idx) a).val = _
  rw [Rect.emb_apply, show Shape.reshapeEquiv squeezes_S1x1x1024_S1x1024.numel_eq x
    = (Fin.cons ⟨0, Nat.one_pos⟩ x : (⟨3, Matrix.vecCons 1 ![1, 1024]⟩ : Shape).Idx) from Shape.reshapeEquiv_cons_one _ x]
  have h0 : (x 0).val = 0 := by have : (x 0).val < 1 := (x 0).isLt; omega
  match a with
  | ⟨0, _⟩ => show k.val + 1 * 0 = k.val; omega
  | ⟨1, _⟩ => show 0 + 1 * (x 0).val = 0; omega
  | ⟨2, _⟩ => show 0 + 1 * (x 1).val = (x 1).val; omega

/-- Slot `k`'s elements are those of slab `k`. -/
theorem mem_slot (k : Fin 16) (i : S16x1x1024.Idx) : i ∈ (slotM k).view.set ↔ (i 0).val = k.val := by
  constructor
  · intro h
    obtain ⟨x, -, rfl⟩ := Finset.mem_map.mp h
    exact slot_emb k x 0
  · intro h
    refine Finset.mem_map.mpr ⟨rowAt i, Finset.mem_univ _, ?_⟩
    funext a
    apply Fin.ext
    rw [slot_emb k (rowAt i) a]
    have h1 : (i 1).val = 0 := by have : (i 1).val < 1 := (i 1).isLt; omega
    match a with
    | ⟨0, _⟩ => exact h.symm
    | ⟨1, _⟩ => exact h1.symm
    | ⟨2, _⟩ => rfl

/-- Slot `k`'s elements, as elements of the receive buffer. -/
def slotSet (k : Fin 16) : Finset S16x1x1024.Idx := (slotM k).view.set

theorem slots_disjoint (k k' : Fin 16) (h : k ≠ k') : Disjoint (slotSet k) (slotSet k') := by
  rw [Finset.disjoint_left]
  intro i hi hi'
  exact h (Fin.ext (((mem_slot k i).mp hi).symm.trans ((mem_slot k' i).mp hi')))
theorem slots_cover : (Finset.univ : Finset (Fin 16)).biUnion slotSet = Finset.univ := by
  ext i
  simp only [Finset.mem_biUnion, Finset.mem_univ, true_and, iff_true]
  exact ⟨i 0, (mem_slot _ i).mpr rfl⟩

abbrev sLoc (c : Dev nD) : Loc nD τ sig := (c : Thread nD τ).loc cc0_scratch1
abbrev rLoc (c : Dev nD) : Loc nD τ sig := (c : Thread nD τ).loc cc0_scratch2

/-- Slot `k` of device `c` held at contents `f`. -/
def slotPts (c : Dev nD) (k : Fin 16) (f : Buf (Elt F) (rLoc c)) : sProp 𝕄 := rLoc c ↦[(slotM k).view.set]{fullShare} f

/-- The receive buffer split in its slots. -/
theorem slots_split (c : Dev nD) (f : Buf (Elt F) (rLoc c)) :
    (rLoc c ↦{fullShare} f : sProp 𝕄) = bigSep Finset.univ fun k => slotPts c k f :=
  Ring.pointsTo_blocks (ℓ := rLoc c) slotSet slots_disjoint slots_cover f

variable (T : Dev nD → (cc0_scratch1 : Ref sig .tc).ty.Contents (Elt F))

/-- What the receive buffer of device `c` ends at: in slot `k` the row of the device `k` places before it. -/
def recvd (c : Dev nD) : Buf (Elt F) (rLoc c) := fun (i : S16x1x1024.Idx) => T (back c (i 0)) (rowAt i)

/-- A row written to slot `k` of `peer c k` is what that slot is to end at. -/
theorem slot_landed (c : Dev nD) (k : Fin 16) (fd : Buf (Elt F) (rLoc (peer c k))) :
    (rLoc (peer c k) ↦[(slotM k).view.set]{fullShare} (slotM k).view.write (Elt F) fd (sM.view.read (Elt F) (T c)) Finset.univ : sProp 𝕄)
      = slotPts (peer c k) k (recvd T (peer c k)) := by
  unfold slotPts
  refine pointsTo_congr fun i hi => ?_
  obtain ⟨x, -, rfl⟩ := Finset.mem_map.mp hi
  rw [View.write_emb_of_mem _ _ (Finset.mem_univ _)]
  show sM.view.read (Elt F) (T c) x = T (back (peer c k) _) (rowAt _)
  have h0 : (((slotM k).view.emb x : S16x1x1024.Idx) 0 : Fin 16) = k := Fin.ext (slot_emb k x 0)
  have h1 : rowAt ((slotM k).view.emb x) = x := by
    funext a
    apply Fin.ext
    match a with
    | ⟨0, _⟩ => show 0 = (x 0).val; have : (x 0).val < 1 := (x 0).isLt; omega
    | ⟨1, _⟩ => exact slot_emb k x 2
  rw [h1]
  exact (congrFun (View.read_whole cc0_scratch1 (T c)) x).trans (congrArg (fun d => T d x) ((back_peer c k).symm.trans (congrArg (back (peer c k)) h0.symm)))

/-! ## The row shared among the transfers -/

theorem sixteen_eq : 16 = 2 ^ 4 := by decide
/-- The share of the row that the transfer at offset `k` holds. -/
abbrev shareOf (k : Fin 16) : PosShare TreeShare := ShareLeaves.leaf 4 fullShare (finCongr sixteen_eq k)
/-- Device `c`'s row of totals, at the share of offset `k`. -/
def rowPts (c : Dev nD) (k : Fin 16) : sProp 𝕄 := sLoc c ↦[Finset.univ]{shareOf k} T c

theorem row_split (c : Dev nD) : (sLoc c ↦{fullShare} T c : sProp 𝕄) = bigSep Finset.univ fun k => rowPts T c k :=
  by
  have h := ShareLeaves.pointsTo_leaves (Ix := Unit) (Name := ℕ) (U := UU) (Lvl := ℕ) (ℓ := sLoc c) Finset.univ (T c) 4 fullShare
  rw [h]
  exact bigSep_univ_equiv (finCongr sixteen_eq) (fun i => (sLoc c ↦[Finset.univ]{ShareLeaves.leaf 4 fullShare i} T c : sProp 𝕄))

/-! ## The schedule -/

/-- What the unit of offset `d` hands device `c`: the slot at `peer c d` that `c` is to fill. -/
def barPay (c : Dev nD) (d : Fin 16) : sProp 𝕄 := iprop(∃ f, slotPts (F := F) (peer c d) d f)

/-- Whether DMA semaphore `q` is one of the 15 used to send or one of the 15 used to receive. -/
abbrev Used (q : DmaSem sig) : Prop := (10 ≤ q.val ∧ q.val ≤ 24) ∨ 26 ≤ q.val

/-- The duties of a device's cell. -/
def dutiesOf : SemLoc sig → Finset (Fin 16)
  | .reg _ => since 1
  | .dma q => if Used q then {0} else ∅

theorem dutiesOf_used (q : DmaSem sig) (h : Used q) : dutiesOf (.dma q) = {0} := if_pos h
theorem dutiesOf_unused (q : DmaSem sig) (h : ¬ Used q) : dutiesOf (.dma q) = ∅ := if_neg h

/-- One round.  A barrier cell has the 15 duties of the offsets 1 to 15, of one unit each; a send or receive cell one duty of a
    row's amount, which hands back the share of the row sent, or the slot filled. -/
def sched : Rounds.Schedule (GSem nD τ sig) (Fin 16) 𝕄 where
  duties g r := if r = 0 ∧ g.1.2 = .tc then dutiesOf g.2 else ∅
  unitless _ := False
  amount g _ _ := match g.2 with | .reg _ => 1 | .dma _ => N
  payload g _ d := match g.2 with
    | .reg _ => barPay g.1.1 d
    | .dma q => if h : 25 ≤ q.val ∧ q.val < 41 then slotPts g.1.1 ⟨q.val - 25, by omega⟩ (recvd T g.1.1)
        else if h' : 9 ≤ q.val ∧ q.val < 25 then rowPts T g.1.1 ⟨q.val - 9, by omega⟩ else iprop(emp)
  amount_pos g _ _ _ := by
    rcases g with ⟨_, _ | _⟩
    · exact Nat.one_pos
    · exact N_pos

instance sched_storable (g : GSem nD τ sig) (r : ℕ) (d : Fin 16) :
    BI.Storable (upEmb : UEmb _ 𝕄) ((sched T).payload g r d) := by
  rcases g with ⟨t, s | q⟩
  · show BI.Storable upEmb (barPay t.1 d); unfold barPay slotPts; infer_instance
  · show BI.Storable upEmb (if h : 25 ≤ q.val ∧ q.val < 41 then slotPts t.1 ⟨q.val - 25, by omega⟩ (recvd T t.1)
        else if h' : 9 ≤ q.val ∧ q.val < 25 then rowPts T t.1 ⟨q.val - 9, by omega⟩ else iprop(emp))
    unfold slotPts rowPts
    (repeat' split) <;> infer_instance

section Sched
variable (c : Dev nD) (k : Fin 16)

theorem duties_tc (sm : SemLoc sig) : (sched T).duties ((c : Thread nD τ), sm) 0 = dutiesOf sm := by
  dsimp only [sched]; exact if_pos ⟨rfl, rfl⟩
theorem duties_bar : (sched T).duties (barCell c) 0 = since 1 := duties_tc T c _
theorem duties_send (hk : 1 ≤ k.val) : (sched T).duties (sendCell c k) 0 = {0} :=
  (duties_tc T c _).trans (dutiesOf_used _ (Or.inl (by have := sendS_val k; have := k.isLt; omega)))
theorem duties_recv (hk : 1 ≤ k.val) : (sched T).duties (recvCell c k) 0 = {0} :=
  (duties_tc T c _).trans (dutiesOf_used _ (Or.inr (by have := recvS_val k; omega)))
theorem duties_send_zero : (sched T).duties (sendCell c 0) 0 = ∅ :=
  (duties_tc T c _).trans (dutiesOf_unused _ (by decide))
theorem duties_recv_zero : (sched T).duties (recvCell c 0) 0 = ∅ :=
  (duties_tc T c _).trans (dutiesOf_unused _ (by decide))
theorem duties_later (g : GSem nD τ sig) : ∀ r, 1 ≤ r → (sched T).duties g r = ∅ :=
  fun r hr => by dsimp only [sched]; exact if_neg fun h => by omega

theorem amount_bar (d : Fin 16) : (sched T).amount (barCell c) 0 d = 1 := rfl
theorem amount_send (d : Fin 16) : (sched T).amount (sendCell c k) 0 d = N := rfl
theorem amount_recv (d : Fin 16) : (sched T).amount (recvCell c k) 0 d = N := rfl

theorem expect_bar : (sched T).expect (barCell c) 0 = 15 := by
  unfold Schedule.expect Schedule.amountOf
  rw [duties_bar, Finset.sum_congr rfl fun d _ => amount_bar T c d, Finset.sum_const, card_since_one]; rfl
theorem expect_send (hk : 1 ≤ k.val) : (sched T).expect (sendCell c k) 0 = N := by
  unfold Schedule.expect Schedule.amountOf; rw [duties_send T c k hk, Finset.sum_singleton, amount_send]
theorem expect_recv (hk : 1 ≤ k.val) : (sched T).expect (recvCell c k) 0 = N := by
  unfold Schedule.expect Schedule.amountOf; rw [duties_recv T c k hk, Finset.sum_singleton, amount_recv]

theorem payload_bar (d : Fin 16) : (sched T).payload (barCell c) 0 d = barPay c d := rfl
theorem payload_recv (d : Fin 16) : (sched T).payload (recvCell c k) 0 d = slotPts c k (recvd T c) := by
  have hv := recvS_val k
  refine (dif_pos (by have := k.isLt; constructor <;> omega)).trans ?_
  exact congrArg (fun j => slotPts c j (recvd T c)) (Fin.ext (by show (recvS k).val - 25 = k.val; omega))
theorem payload_send (d : Fin 16) : (sched T).payload (sendCell c k) 0 d = rowPts T c k := by
  have hv := sendS_val k
  refine (dif_neg (by have := k.isLt; omega)).trans ((dif_pos (by have := k.isLt; constructor <;> omega)).trans ?_)
  exact congrArg (fun j => rowPts T c j) (Fin.ext (by show (sendS k).val - 9 = k.val; omega))

theorem rest_bar : bigSep ((sched T).duties (barCell c) 0 \ ∅) (fun d => (sched T).payload (barCell c) 0 d) = bigSep (since 1) fun d => barPay c d := by
  rw [Finset.sdiff_empty, duties_bar]; rfl
theorem rest_send (hk : 1 ≤ k.val) : bigSep ((sched T).duties (sendCell c k) 0 \ ∅) (fun d => (sched T).payload (sendCell c k) 0 d) = rowPts T c k := by
  rw [Finset.sdiff_empty, duties_send T c k hk, bigSep_singleton, payload_send]
theorem rest_recv (hk : 1 ≤ k.val) : bigSep ((sched T).duties (recvCell c k) 0 \ ∅) (fun d => (sched T).payload (recvCell c k) 0 d) = slotPts c k (recvd T c) := by
  rw [Finset.sdiff_empty, duties_recv T c k hk, bigSep_singleton, payload_recv]

end Sched

/-! ## What a device owes -/

/-- The rows device `c` still owes when it has sent those of the offsets below `n`. -/
def recvDue (c : Dev nD) (n : ℕ) : CellTallies nD τ sig Unit := ∑ k ∈ since (K := 16) n, tallyAt (recvCell (peer c k) k) () N
/-- The units device `c` still owes when it has sent those of the offsets below `n`. -/
def barDue (c : Dev nD) (n : ℕ) : CellTallies nD τ sig Unit := ∑ k ∈ since (K := 16) n, tallyAt (barCell (peer c k)) () 1

theorem recvDue_step (c : Dev nD) (k : Fin 16) :
    recvDue c k.val = recvDue c (k.val + 1) + tallyAt (recvCell (peer c k) k) () N := by
  unfold recvDue; rw [since_eq k, Finset.sum_insert (not_mem_since k), add_comm]
theorem barDue_step (c : Dev nD) (k : Fin 16) :
    barDue c k.val = barDue c (k.val + 1) + tallyAt (barCell (peer c k)) () 1 := by
  unfold barDue; rw [since_eq k, Finset.sum_insert (not_mem_since k), add_comm]
theorem recvDue_last (c : Dev nD) : recvDue c 16 = 0 := by unfold recvDue; rw [since_last, Finset.sum_empty]
theorem barDue_last (c : Dev nD) : barDue c 16 = 0 := by unfold barDue; rw [since_last, Finset.sum_empty]

/-- A sum of tallies is positive only where one of them is. -/
theorem sum_tally_pos {I : Type} [DecidableEq I] (S : Finset I) (g : I → GSem nD τ sig) (n : I → ℕ) {x : GSem nD τ sig} {u : Unit}
    (h : 0 < (∑ i ∈ S, tallyAt (Ix := Unit) (g i) () (n i)) x u) : ∃ i ∈ S, x = g i := by
  induction S using Finset.induction_on with
  | empty => rw [Finset.sum_empty] at h; exact absurd h (Nat.lt_irrefl 0)
  | insert i S hi ih =>
    rw [Finset.sum_insert hi, Pi.add_apply, Finsupp.add_apply, tallyAt_apply] at h
    by_cases e : x = g i ∧ u = ()
    · exact ⟨i, Finset.mem_insert_self _ _, e.1⟩
    · rw [if_neg e, Nat.zero_add] at h
      obtain ⟨j, hj, hx⟩ := ih h
      exact ⟨j, Finset.mem_insert_of_mem hj, hx⟩

/-! ## The order of the waits -/

def L (g : GSem nD τ sig) : Finset Unit := if g.1.2 = .tc then {()} else ∅
/-- Barrier cells stand at 1, receive cells at 2, all others at 0. -/
def lv (g : GSem nD τ sig) (_ : Unit) : ℕ := match g.2 with | .reg _ => 1 | .dma q => if 25 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 16) (u : Unit) : lv (recvCell c k) u = 2 :=
  if_pos (by have := recvS_val k; omega)
theorem lv_bar (c : Dev nD) (u : Unit) : lv (barCell c) u = 1 := rfl

/-- A device that owes units and rows may wait on a cell that stands at 0. -/
theorem mayWait_low (c : Dev nD) (q : DmaSem sig) (hq : q.val < 25) (n n' : ℕ) :
    (levAts L lv : sProp 𝕄) ⊢ MayWait (c : Thread nD τ) (.dma q) () (recvDue c n + barDue c n') := by
  have key : ∀ g u, 0 < (recvDue c n + barDue c n') g u → (∃ d k, g = recvCell d k) ∨ (∃ d, g = barCell d) := by
    intro g u hg
    rw [Pi.add_apply, Finsupp.add_apply] at hg
    rcases Nat.pos_of_ne_zero (fun h => by omega) |> fun (_ : 0 < recvDue c n g u + barDue c n' g u) => Nat.eq_zero_or_pos (recvDue c n g u) with h | h
    · rw [h, Nat.zero_add] at hg
      obtain ⟨i, -, hi⟩ := sum_tally_pos _ _ _ hg
      exact .inr ⟨_, hi⟩
    · obtain ⟨i, -, hi⟩ := sum_tally_pos _ _ _ h
      exact .inl ⟨_, _, hi⟩
  refine MayOwe.of_cut (L := L) (lev := lv) 0 (fun p hp => by rw [Finset.mem_singleton.mp hp, L_tc]; exact Finset.mem_singleton_self _)
    (fun g u hg => by rcases key g u hg with ⟨d, k, rfl⟩ | ⟨d, rfl⟩ <;> exact Finset.mem_singleton_self _)
    (fun p hp => by rw [Finset.mem_singleton.mp hp]; exact le_of_eq (if_neg (by omega)))
    (fun g u hg => by
      rcases key g u hg with ⟨d, k, rfl⟩ | ⟨d, rfl⟩
      · rw [lv_recv]; decide
      · rw [lv_bar]; decide)

/-- A device that owes rows only may wait on its barrier cell. -/
theorem mayWait_bar (c : Dev nD) (n : ℕ) : (levAts L lv : sProp 𝕄) ⊢ MayWait (c : Thread nD τ) (.reg barS) () (recvDue c n) :=
  MayOwe.of_cut (L := L) (lev := lv) 1 (fun p hp => by rw [Finset.mem_singleton.mp hp, L_tc]; exact Finset.mem_singleton_self _)
    (fun g u hg => by obtain ⟨i, -, rfl⟩ := sum_tally_pos _ _ _ hg; exact Finset.mem_singleton_self _)
    (fun p hp => by rw [Finset.mem_singleton.mp hp]; exact le_of_eq rfl)
    (fun g u hg => by obtain ⟨i, -, rfl⟩ := sum_tally_pos _ _ _ hg; rw [lv_recv]; decide)

end Cert.KernelIdeal.Exchange

end
-- ==== Proof.Steps.lean ====
/-
  The exchange's steps: one statement for each kind of communication step, for every offset.
-/
module

public import proofs.«01_k».proof.Proof.Sched

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (T : Dev nD → (cc0_scratch1 : Ref sig .tc).ty.Contents (Elt F)) (K : Dev nD × CI → ℕ)

/-! ## What all steps share -/

/-- Every cell's invariant, and that every cell has reached round 0. -/
def records : sProp 𝕄 :=
  bigSep Finset.univ fun x : Dev nD × CI => iprop(cellInv ER (sched T) (K x) (kcell x) ∗ reached ER (kcell x) 0)
instance records_persistent : BI.Persistent (records T K) := by unfold records; infer_instance

theorem record_at (x : Dev nD × CI) : records T K ⊢ iprop(cellInv ER (sched T) (K x) (kcell x) ∗ reached ER (kcell x) 0) :=
  bigSep_elim (Finset.mem_univ x)

/-- The records, the order of the waits, and what device `c` owes. -/
def Ctx (c : Dev nD) (O : CellTallies nD τ sig Unit) : sProp 𝕄 :=
  iprop(records T K ∗ levAts L lv ∗ ∃ W, owes (c : Thread nD τ) O W)

/-! ## The signals -/

/-- What device `c` needs to signal the device at offset `k`: the right to pay, and the slot it declares free. -/
def sigRes (c : Dev nD) (k : Fin 16) : sProp 𝕄 :=
  iprop(dutyTok ER (barCell (peer c k)) 0 (opp k) ∗ ∃ f, slotPts (F := F) c (opp k) f)
/-- Device `c` has signalled the offsets below `n`. -/
def Sig (c : Dev nD) (n : ℕ) : sProp 𝕄 :=
  iprop(Ctx T K c (recvDue c 1 + barDue c n) ∗ Front 1 (sigRes c) (fun _ => iprop(emp)) n)

theorem step_signal (c : Dev nD) (k : Fin 16) (hk : 1 ≤ k.val) (dst : Dev nD) (hdst : dst = peer c k)
    {α : Type} {Q : α → sProp 𝕄} {kk : PUnit → Prog (TpuEff nD τ sig (Elt F) Λ₀ .tc) α} :
    Sig T K c k.val ⊢ iprop((Sig T K c (k.val + 1) -∗ WP c (kk ⟨⟩) Q)
      -∗ WP c (.op (.semSignal (dst : Thread nD τ) barS (1#32 : BitVec 32).toNat) kk) Q) := by
  subst hdst
  unfold Sig Ctx
  iintro ⟨⟨#HR, #HL, ⟨%W, HO⟩⟩, HF⟩ Hk
  ihave HF := (front_take (sigRes c) (fun _ => iprop(emp)) k) $$ HF
  unfold sigRes
  icases HF with ⟨⟨Ht, Hs⟩, HF⟩
  ihave HI := (record_at T K (peer c k, none)) $$ HR
  icases HI with ⟨HI, HI'⟩
  have hO : recvDue c 1 + barDue c k.val = recvDue c 1 + barDue c (k.val + 1) + tallyAt ((peer c k : Thread nD τ), SemLoc.reg barS) () (1#32 : BitVec 32).toNat := by
    rw [barDue_step, ← add_assoc]; rfl
  iapply (Rounds.wp_signal 𝒱₀ ER (sched T) (c : Thread nD τ) none (dst := (peer c k : Thread nD τ)) (κ := K (peer c k, none))
      (d := opp k) (by rw [duties_bar]; exact opp_mem (mem_since.mpr hk)) ((amount_bar T (peer c k) (opp k)).trans (by decide)) ()
      (recvDue c 1 + barDue c (k.val + 1)) hO)
    $$ [HO Ht Hs HI HI']
  · isplitl [HI]; · iexact HI
    isplitl [HO]; · iexact HO
    isplitl [Ht]; · iexact Ht
    isplitl [Hs]
    · rw [payload_bar]; unfold barPay; rw [peer_opp]; iexact Hs
    · iexact HI'
  iintro HO
  iapply Hk
  isplitl [HO]
  · isplitr; · iexact HR
    isplitr; · iexact HL
    iexists W; iexact HO
  · iapply (front_put (sigRes c) (fun _ => iprop(emp)) k hk)
    isplitr; · iempintro
    unfold sigRes
    iexact HF

/-! ## The wait for the 15 signals -/

/-- Waiting for the 15 units, device `c` gets the 15 slots it is to fill. -/
theorem step_barrier (c : Dev nD) {α : Type} {Q : α → sProp 𝕄} {kk : PUnit → Prog (TpuEff nD τ sig (Elt F) Λ₀ .tc) α} :
    iprop(Ctx T K c (recvDue c 1 + barDue c 16) ∗ cred (tallyAt (barCell c) () 15) ∗ atPos ER (barCell c) 0 ∅ 0)
      ⊢ iprop(((Ctx T K c (recvDue c 1) ∗ semVal (barCell c) 0 ∗ bigSep (since 1) fun d => barPay (F := F) c d) -∗ WP c (kk ⟨⟩) Q)
      -∗ WP c (.op (.semWait barS (15#32 : BitVec 32).toNat) kk) Q) := by
  rw [barDue_last, add_zero]
  unfold Ctx
  iintro ⟨⟨#HR, #HL, ⟨%W, HO⟩⟩, Hc, Ha⟩ Hk
  ihave HI := (record_at T K (c, none)) $$ HR
  icases HI with ⟨#HI, -⟩
  iapply (Rounds.wp_wait_rest_token 𝒱₀ ER (sched T) (c : Thread nD τ) none (κ := K (c, none))
      (wpE_semWait_eq 𝒱₀ (c : Thread nD τ) none Set.univ) (Set.mem_univ _) () (O := recvDue c 1) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c 1); iexact HL
    iexact Ha
  iintro ⟨HO, Ha, -, Hp⟩
  ihave Hp := (Entails.of_eq (rest_bar T c)) $$ Hp
  imod (Rounds.cell_close ER (sched T) (Set.mem_univ (K (c, none))) (fun h => h) (R := 0 + 1) (duties_later T (barCell c))) $$ [Ha] with Hz
  · isplitr; · iexact HI
    iexact Ha
  iapply Hk
  isplitl [HO]
  · isplitr; · iexact HR
    isplitr; · iexact HL
    iexists _; iexact HO
  isplitl [Hz] <;> iassumption

/-! ## The transfers -/

/-- What device `c` needs to send to the device at offset `k`: the slot, a share of its row, and the rights to pay the two cells. -/
def sndRes (c : Dev nD) (k : Fin 16) : sProp 𝕄 :=
  iprop(barPay (F := F) c k ∗ rowPts T c k ∗ dutyTok ER (sendCell c k) 0 0 ∗ dutyTok ER (recvCell (peer c k) k) 0 0)
/-- What it has once that transfer is issued. -/
def sntRes (c : Dev nD) (k : Fin 16) : sProp 𝕄 := cred (tallyAt (sendCell c k) () N)
/-- Device `c` has sent to the offsets below `n`. -/
def Snd (c : Dev nD) (n : ℕ) : sProp 𝕄 := iprop(Ctx T K c (recvDue c n) ∗ Front 1 (sndRes T c) (sntRes (F := F) c) n)

theorem slot_credit (k : Fin 16) : (slotM k).view.dmaCredit = N := by revert k; decide

theorem step_send (c : Dev nD) (k : Fin 16) (hk : 1 ≤ k.val) (dst : Dev nD) (hdst : dst = peer c k)
    {hsc : (slotM k : Memref sig (Dev.tc dst : Thread nD τ).2.kind .vmem S1x1024 .f32).view.ref.isScScratch = false}
    {hsrc : (sM : Memref sig .tc .vmem S1x1024 .f32).view.WordExact} {hd : (slotM k).view.WordExact}
    {hsem : DmaTarget.Typed .vmem (.dma (recvS k)) (.remote (Dev.tc dst : Thread nD τ) (slotM k) (.dma (sendS k)) hsc)}
    {α : Type} {Q : α → sProp 𝕄} {kk : PUnit → Prog (TpuEff nD τ sig (Elt F) Λ₀ .tc) α} :
    Snd T K c k.val ⊢ iprop((Snd T K c (k.val + 1) -∗ WP c (kk ⟨⟩) Q)
      -∗ WP c (.op (.enqueueDma sM (.remote (Dev.tc dst : Thread nD τ) (slotM k) (.dma (sendS k)) hsc) (.dma (recvS k)) hsrc hd hsem) kk) Q) := by
  subst hdst
  unfold Snd Ctx
  iintro ⟨⟨#HR, #HL, ⟨%W, HO⟩⟩, HF⟩ Hk
  ihave HF := (front_take (sndRes T c) (sntRes (F := F) c) k) $$ HF
  icases HF with ⟨HA, HF⟩
  ihave HA := (Entails.of_eq (show sndRes T c k = iprop((∃ f, slotPts (F := F) (peer c k) k f) ∗ rowPts T c k ∗ dutyTok ER (sendCell c k) 0 0 ∗ dutyTok ER (recvCell (peer c k) k) 0 0) from rfl)) $$ HA
  icases HA with ⟨⟨%fn, Hs⟩, Hrow, Ht, Ht'⟩
  ihave HI := (record_at T K (c, some (false, k))) $$ HR
  icases HI with ⟨HI, HI'⟩
  ihave HJ := (record_at T K (peer c k, some (true, k))) $$ HR
  icases HJ with ⟨HJ, HJ'⟩
  have hp₁ : (sM.view.loc (c : Thread nD τ) ↦[sM.view.set]{shareOf k} T c : sProp 𝕄) ⊢ (sched T).payload (sendCell c k) 0 0 := by
    rw [payload_send]; unfold rowPts; rw [View.set_whole]
  have hp₂ : ((slotM k).view.loc (peer c k : Thread nD τ) ↦[(slotM k).view.set]{fullShare} (slotM k).view.write (Elt F) fn (sM.view.read (Elt F) (T c)) Finset.univ : sProp 𝕄)
      ⊢ (sched T).payload (recvCell (peer c k) k) 0 0 := by
    rw [payload_recv]; exact Entails.of_eq (slot_landed T c k fn)
  ihave Hrow := (Entails.of_eq (show rowPts T c k = (sM.view.loc (c : Thread nD τ) ↦[sM.view.set]{shareOf k} T c : sProp 𝕄) by
    unfold rowPts; rw [View.set_whole])) $$ Hrow
  unfold slotPts
  have hN : (slotM k).view.amount (SemLoc.dma (recvS k)) = N := slot_credit k
  iapply (Rounds.wp_send_pointsTo 𝒱₀ ER (sched T) (c : Thread nD τ) none (κ₁ := K (c, some (false, k))) (κ₂ := K (peer c k, some (true, k)))
    (r₁ := 0) (r₂ := 0) (d₁ := 0) (d₂ := 0) (fd := fn)
    (by rw [duties_send T c k hk]; exact Finset.mem_singleton_self _) (by rw [duties_recv T _ k hk]; exact Finset.mem_singleton_self _)
    () () N hN (amount_send T c k 0) (amount_recv T (peer c k) k 0) (recvDue c (k.val + 1)) (recvDue_step c k) (W := W)
    hp₁ hp₂) $$ [HI HJ HI' HJ' Hs Hrow Ht Ht' HO]
  · isplitl [HI]; · iexact HI
    isplitl [HJ]; · iexact HJ
    isplitl [Hrow]; · iexact Hrow
    isplitl [Hs]; · iexact Hs
    isplitl [HO]; · iexact HO
    isplitl [Ht]; · iexact Ht
    isplitl [HI']; · iexact HI'
    isplitl [Ht'] <;> iassumption
  iintro ⟨Hc, HO⟩
  iapply Hk
  isplitl [HO]
  · isplitr; · iexact HR
    isplitr; · iexact HL
    iexists _; iexact HO
  · iapply (front_put (sndRes T c) (sntRes (F := F) c) k hk)
    isplitl [Hc]; · unfold sntRes; iexact Hc
    iexact HF

/-! ## The waits -/

/-- What device `c` needs to wait for slot `k`, -/
def rcvRes (c : Dev nD) (k : Fin 16) : sProp 𝕄 := iprop(cred (tallyAt (recvCell c k) () N) ∗ atPos ER (recvCell c k) 0 ∅ 0)
/-- and what it has then: the slot holding the row of the device `k` places before. -/
def gotRes (c : Dev nD) (k : Fin 16) : sProp 𝕄 := iprop(slotPts c k (recvd T c) ∗ semVal (recvCell c k) 0)
/-- Device `c` has received from the offsets below `n`. -/
def Rcv (c : Dev nD) (n : ℕ) : sProp 𝕄 := iprop(Ctx T K c 0 ∗ Front 1 (rcvRes (F := F) c) (gotRes T c) n)

/-- What device `c` needs to wait for its transfer at offset `k` to have read its row, -/
def wtRes (c : Dev nD) (k : Fin 16) : sProp 𝕄 := iprop(sntRes (F := F) c k ∗ atPos ER (sendCell c k) 0 ∅ 0)
/-- and what it has then: its share of the row again. -/
def doneRes (c : Dev nD) (k : Fin 16) : sProp 𝕄 := iprop(rowPts T c k ∗ semVal (sendCell c k) 0)
/-- Device `c` has waited for its transfers at the offsets below `n`. -/
def Wts (c : Dev nD) (n : ℕ) : sProp 𝕄 := iprop(Ctx T K c 0 ∗ Front 1 (wtRes (F := F) c) (doneRes T c) n)

theorem step_recv (c : Dev nD) (k : Fin 16) (hk : 1 ≤ k.val)
    {hsrc : (sM : Memref sig .tc .vmem S1x1024 .f32).view.WordExact} {hd : (slotM k).view.WordExact}
    {α : Type} {Q : α → sProp 𝕄} {kk : PUnit → Prog (TpuEff nD τ sig (Elt F) Λ₀ .tc) α} :
    Rcv T K c k.val ⊢ iprop((Rcv T K c (k.val + 1) -∗ WP c (kk ⟨⟩) Q)
      -∗ WP c (.op (.waitDma2 (recvS k) sM (slotM k) hsrc hd) kk) Q) := by
  unfold Rcv Ctx
  iintro ⟨⟨#HR, #HL, ⟨%W, HO⟩⟩, HF⟩ Hk
  ihave HF := (front_take (rcvRes (F := F) c) (gotRes T c) k) $$ HF
  icases HF with ⟨HA, HF⟩
  ihave HA := (Entails.of_eq (show rcvRes (F := F) c k = iprop(cred (tallyAt (recvCell c k) () N) ∗ atPos ER (recvCell c k) 0 ∅ 0) from rfl)) $$ HA
  icases HA with ⟨Hc, Ha⟩
  ihave HI := (record_at T K (c, some (true, k))) $$ HR
  icases HI with ⟨#HI, -⟩
  iapply (Rounds.wp_wait_rest_token 𝒱₀ ER (sched T) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv T c k hk])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_recv T c k hk)) $$ Hp
  imod (Rounds.cell_close ER (sched T) (Set.mem_univ (K (c, some (true, k)))) (fun h => h) (R := 0 + 1) (duties_later T (recvCell c k))) $$ [Ha] with Hz
  · isplitr; · iexact HI
    iexact Ha
  iapply Hk
  isplitl [HO]
  · isplitr; · iexact HR
    isplitr; · iexact HL
    iexists _; iexact HO
  · iapply (front_put (rcvRes (F := F) c) (gotRes T c) k hk)
    isplitl [Hp Hz]
    · unfold gotRes; isplitl [Hp] <;> iassumption
    iexact HF

theorem row_credit : (sM : Memref sig .tc .vmem S1x1024 .f32).view.dmaCredit = N := by decide

theorem step_wait (c : Dev nD) (k : Fin 16) (hk : 1 ≤ k.val)
    {hsrc : (slotM k).view.WordExact} {hd : (sM : Memref sig .tc .vmem S1x1024 .f32).view.WordExact}
    {α : Type} {Q : α → sProp 𝕄} {kk : PUnit → Prog (TpuEff nD τ sig (Elt F) Λ₀ .tc) α} :
    Wts T K c k.val ⊢ iprop((Wts T K c (k.val + 1) -∗ WP c (kk ⟨⟩) Q)
      -∗ WP c (.op (.waitDma2 (sendS k) (slotM k) sM hsrc hd) kk) Q) := by
  unfold Wts Ctx
  iintro ⟨⟨#HR, #HL, ⟨%W, HO⟩⟩, HF⟩ Hk
  ihave HF := (front_take (wtRes (F := F) c) (doneRes T c) k) $$ HF
  icases HF with ⟨HA, HF⟩
  ihave HA := (Entails.of_eq (show wtRes (F := F) c k = iprop(cred (tallyAt (sendCell c k) () (sM : Memref sig .tc .vmem S1x1024 .f32).view.dmaCredit) ∗ atPos ER (sendCell c k) 0 ∅ 0) by rw [row_credit]; rfl)) $$ HA
  icases HA with ⟨Hc, Ha⟩
  ihave HI := (record_at T K (c, some (false, k))) $$ HR
  icases HI with ⟨#HI, -⟩
  iapply (Rounds.wp_wait_rest_token 𝒱₀ ER (sched T) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send T c k hk])) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_send T c k hk)) $$ Hp
  imod (Rounds.cell_close ER (sched T) (Set.mem_univ (K (c, some (false, k)))) (fun h => h) (R := 0 + 1) (duties_later T (sendCell c k))) $$ [Ha] with Hz
  · isplitr; · iexact HI
    iexact Ha
  iapply Hk
  isplitl [HO]
  · isplitr; · iexact HR
    isplitr; · iexact HL
    iexists _; iexact HO
  · iapply (front_put (wtRes (F := F) c) (doneRes T c) k hk)
    isplitl [Hp Hz]
    · unfold doneRes; isplitl [Hp] <;> iassumption
    iexact HF

end Cert.KernelIdeal.Exchange

end
-- ==== Proof.Local.lean ====
/-
  The device's own steps: copying the argument in, piece by piece, and rewriting the result block by block.

  The argument is copied into the working buffer in 8 pieces of 256 rows, each on its own semaphore.  The
  result is written in 16 blocks of 128 rows, each of them twice.
-/
module

public import proofs.«01_k».proof.Proof.Steps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2)

variable {F : FTy → Type} [FloatOps F]

local notation "𝕄" => MT nD τ sig Unit (Elt F) ℕ UU ℕ

/-- Looking at one of the resources that have reached state `B`. -/
theorem front_look {K lo : ℕ} (A B : Fin K → sProp 𝕄) (n : ℕ) (k : Fin K) (h : lo ≤ k.val) (h' : k.val < n) :
    Front lo A B n ⊢ iprop(B k ∗ (B k -∗ Front lo A B n)) := by
  have e : mid lo n = insert k ((mid lo n).erase k) := (Finset.insert_erase (mem_mid.mpr ⟨h, h'⟩)).symm
  unfold Front
  rw [e, bigSep_ins (Finset.notMem_erase k _)]
  iintro ⟨H1, H2, H3⟩
  isplitl [H2]; · iexact H2
  iintro H2
  isplitl [H1]; · iexact H1
  isplitl [H2] <;> iassumption

/-! ## Pieces and blocks -/

abbrev xLoc (c : Dev nD) : Loc nD τ sig := (c : Thread nD τ).loc main_arg0
abbrev wLoc (c : Dev nD) : Loc nD τ sig := (c : Thread nD τ).loc cc0_scratch0
abbrev oLoc (c : Dev nD) : Loc nD τ sig := (c : Thread nD τ).loc cc0_stg0_0

/-- The contents of an array of the device's share of the argument. -/
abbrev Arr (F : FTy → Type) [FloatOps F] : Type := Vec F S2048x1024 .f32

theorem chunk_inb (j : Fin 8) : ∀ a, (![256 * j.val, 0] : Fin 2 → Nat) a + S256x1024.size a ≤ S2048x1024.size a := by
  revert j; decide
theorem block_inb (b : Fin 16) : ∀ a, (![128 * b.val, 0] : Fin 2 → Nat) a + S128x1024.size a ≤ S2048x1024.size a := by
  revert b; decide
/-- The rows of piece `j`. -/
abbrev chunkR (j : Fin 8) : Rect S2048x1024 := Rect.unit (s := S2048x1024) ![256 * j.val, 0] S256x1024.size (chunk_inb j)
/-- The rows of block `b`. -/
abbrev blockR (b : Fin 16) : Rect S2048x1024 := Rect.unit (s := S2048x1024) ![128 * b.val, 0] S128x1024.size (block_inb b)
abbrev xC (j : Fin 8) : Memref sig .tc .hbm S256x1024 .f32 := xA.slice (chunkR j) (fun _ => rfl)
abbrev wC (j : Fin 8) : Memref sig .tc .vmem S256x1024 .f32 := wM.slice (chunkR j) (fun _ => rfl)

def chunkSet (j : Fin 8) : Finset S2048x1024.Idx := (chunkR j).set
def blockSet (b : Fin 16) : Finset S2048x1024.Idx := (blockR b).set

theorem mem_chunk (j : Fin 8) (i : S2048x1024.Idx) : i ∈ chunkSet j ↔ 256 * j.val ≤ (i 0).val ∧ (i 0).val < 256 * j.val + 256 := by
  unfold chunkSet
  rw [Rect.mem_set_unit]
  have h1 : (i 1).val < 1024 := (i 1).isLt
  exact ⟨fun h => h 0, fun h a => match a with
    | ⟨0, _⟩ => h
    | ⟨1, _⟩ => ⟨Nat.zero_le _, by show (i 1).val < 0 + 1024; omega⟩⟩
theorem mem_block (b : Fin 16) (i : S2048x1024.Idx) : i ∈ blockSet b ↔ 128 * b.val ≤ (i 0).val ∧ (i 0).val < 128 * b.val + 128 := by
  unfold blockSet
  rw [Rect.mem_set_unit]
  have h1 : (i 1).val < 1024 := (i 1).isLt
  exact ⟨fun h => h 0, fun h a => match a with
    | ⟨0, _⟩ => h
    | ⟨1, _⟩ => ⟨Nat.zero_le _, by show (i 1).val < 0 + 1024; omega⟩⟩

theorem chunks_disjoint (j j' : Fin 8) (h : j ≠ j') : Disjoint (chunkSet j) (chunkSet j') := by
  rw [Finset.disjoint_left]
  intro i hi hi'
  rw [mem_chunk] at hi hi'
  exact h (Fin.ext (by omega))
theorem blocks_disjoint (b b' : Fin 16) (h : b ≠ b') : Disjoint (blockSet b) (blockSet b') := by
  rw [Finset.disjoint_left]
  intro i hi hi'
  rw [mem_block] at hi hi'
  exact h (Fin.ext (by omega))
set_option backward.proofsInPublic true in
/-- The block of a row. -/
def blockOf (i : S2048x1024.Idx) : Fin 16 := ⟨(i 0).val / 128, by have : (i 0).val < 2048 := (i 0).isLt; omega⟩
set_option backward.proofsInPublic true in
/-- A place's position within its block. -/
def inBlock (i : S2048x1024.Idx) : S128x1024.Idx := ix2 (⟨(i 0).val % 128, Nat.mod_lt _ (by decide)⟩ : Fin 128) (i 1 : Fin 1024)
theorem chunks_cover : (Finset.univ : Finset (Fin 8)).biUnion chunkSet = Finset.univ := by
  ext i
  simp only [Finset.mem_biUnion, Finset.mem_univ, true_and, iff_true]
  have h : (i 0).val < 2048 := (i 0).isLt
  exact ⟨⟨(i 0).val / 256, by omega⟩, (mem_chunk _ i).mpr (by show 256 * ((i 0).val / 256) ≤ _ ∧ _ < 256 * ((i 0).val / 256) + 256; omega)⟩
theorem blocks_cover : (Finset.univ : Finset (Fin 16)).biUnion blockSet = Finset.univ := by
  ext i
  simp only [Finset.mem_biUnion, Finset.mem_univ, true_and, iff_true]
  have h : (i 0).val < 2048 := (i 0).isLt
  exact ⟨blockOf i, (mem_block _ i).mpr (by show 128 * ((i 0).val / 128) ≤ _ ∧ _ < 128 * ((i 0).val / 128) + 128; omega)⟩

theorem xC_set (j : Fin 8) : (xC j).view.set = chunkSet j := View.set_slice_whole main_arg0 (chunkR j)
theorem wC_set (j : Fin 8) : (wC j).view.set = chunkSet j := View.set_slice_whole cc0_scratch0 (chunkR j)

/-- The elements a whole view places on are the elements themselves. -/
theorem whole_setOn (b : Ref sig .tc) (M : Finset b.ty.shape.Idx) : (View.whole b).setOn M ⊆ M := by
  intro i hi
  obtain ⟨x, hx, rfl⟩ := Finset.mem_map.mp hi
  exact hx
theorem oB_set (b : Fin 16) : (oM.access (blockR b)).setOn Finset.univ = blockSet b :=
  (View.setOn_univ _).trans (View.set_slice_whole cc0_stg0_0 (blockR b))

/-- The argument split in the pieces copied. -/
theorem arg_split (c : Dev nD) (x : Arr F) :
    (xLoc c ↦{fullShare} x : sProp 𝕄) = bigSep Finset.univ fun j => xLoc c ↦[chunkSet j]{fullShare} x :=
  Ring.pointsTo_blocks (ℓ := xLoc c) chunkSet chunks_disjoint chunks_cover x
/-- The working buffer split in the pieces copied. -/
theorem work_split (c : Dev nD) (x : Arr F) :
    (wLoc c ↦{fullShare} x : sProp 𝕄) = bigSep Finset.univ fun j => wLoc c ↦[chunkSet j]{fullShare} x :=
  Ring.pointsTo_blocks (ℓ := wLoc c) chunkSet chunks_disjoint chunks_cover x
/-- Block `b` of the result's buffer at the contents `y`. -/
def outAt (c : Dev nD) (y : Arr F) (b : Fin 16) : sProp 𝕄 := oLoc c ↦[blockSet b]{fullShare} y
/-- Block `b` of the result's buffer at contents not known. -/
def outRaw (c : Dev nD) (b : Fin 16) : sProp 𝕄 := iprop(∃ f, oLoc c ↦[blockSet b]{fullShare} f)
/-- The result's buffer split in its blocks. -/
theorem out_split (c : Dev nD) (y : Arr F) :
    (oLoc c ↦{fullShare} y : sProp 𝕄) = bigSep Finset.univ fun b => outAt c y b :=
  Ring.pointsTo_blocks (ℓ := oLoc c) blockSet blocks_disjoint blocks_cover y

/-! ## The copies -/

/-- What a copy of a piece adds to its semaphore. -/
abbrev P : ℕ := (wC 0).view.dmaCredit
theorem P_pos : 0 < P := View.dmaCredit_pos _ (by decide)
theorem chunk_credit (j : Fin 8) : (wC j).view.dmaCredit = P := by revert j; decide
theorem chunk_amount (j : Fin 8) : (wC j).view.amount (.dma (inS j)) = P := by revert j; decide

variable (X : Dev nD → Arr F)

/-- Piece `j` before its copy. -/
def piece₀ (c : Dev nD) (j : Fin 8) : sProp 𝕄 :=
  iprop((xLoc c ↦[chunkSet j]{fullShare} X c) ∗ (∃ f, wLoc c ↦[chunkSet j]{fullShare} f) ∗ semVal ((c : Thread nD τ), .dma (inS j)) 0)
/-- Piece `j` copied: the argument's piece back, the working buffer's piece holding the same. -/
def copied (c : Dev nD) (j : Fin 8) : sProp 𝕄 :=
  iprop((wLoc c ↦[chunkSet j]{fullShare} X c) ∗ (xLoc c ↦[chunkSet j]{fullShare} X c))
/-- Piece `j` while it is copied. -/
def piece₁ (c : Dev nD) (j : Fin 8) : sProp 𝕄 := Transfers.Flight EC (c : Thread nD τ) (.dma (inS j)) () P (copied X c j)
/-- Piece `j` after its copy. -/
def piece₂ (c : Dev nD) (j : Fin 8) : sProp 𝕄 := iprop(copied X c j ∗ semVal ((c : Thread nD τ), .dma (inS j)) 0)

/-- A piece written over by the argument's piece holds the argument there. -/
theorem piece_landed (c : Dev nD) (j : Fin 8) (f : Buf (Elt F) (wLoc c)) :
    (wLoc c ↦[chunkSet j]{fullShare} (wC j).view.write (Elt F) f ((xC j).view.read (Elt F) (X c)) Finset.univ : sProp 𝕄)
      = wLoc c ↦[chunkSet j]{fullShare} X c := by
  refine pointsTo_congr fun i hi => ?_
  rw [← wC_set] at hi
  obtain ⟨x, -, rfl⟩ := Finset.mem_map.mp hi
  rw [View.write_emb_of_mem _ _ (Finset.mem_univ _)]
  rfl

theorem step_copy (c : Dev nD) (j : Fin 8) {hsrc : (xC j).view.WordExact} {hd : (wC j).view.WordExact}
    {hsem : DmaTarget.Typed (nD := nD) .hbm (.dma (inS j)) (DmaTarget.here (p := .tc) (wC j))}
    {α : Type} {Q : α → sProp 𝕄} {kk : PUnit → Prog (TpuEff nD τ sig (Elt F) Λ₀ .tc) α} :
    Front 0 (piece₀ X c) (piece₁ X c) j.val ⊢ iprop((Front 0 (piece₀ X c) (piece₁ X c) (j.val + 1) -∗ WP c (kk ⟨⟩) Q)
      -∗ WP c (.op (.enqueueDma (xC j) (.here (wC j)) (.dma (inS j)) hsrc hd hsem) kk) Q) := by
  iintro HF Hk
  ihave HF := (front_take (piece₀ X c) (piece₁ X c) j) $$ HF
  icases HF with ⟨HA, HF⟩
  ihave HA := (Entails.of_eq (show piece₀ X c j = iprop(((xC j).view.loc (c : Thread nD τ) ↦[(xC j).view.set]{fullShare} X c)
      ∗ (∃ f, (wC j).view.loc (c : Thread nD τ) ↦[chunkSet j]{fullShare} f) ∗ semVal ((c : Thread nD τ), .dma (inS j)) 0) by rw [xC_set]; rfl)) $$ HA
  icases HA with ⟨Hx, ⟨%f, Hw⟩, Hs⟩
  iapply (Transfers.wp_dmaLocal EC 𝒱₀ (c : Thread nD τ) none () P (chunk_amount j) P_pos (wC_set j).le) $$ [Hx Hw Hs]
  · isplitl [Hx]; · iexact Hx
    isplitl [Hw] <;> iassumption
  iintro HFl
  iapply Hk
  iapply (front_put (piece₀ X c) (piece₁ X c) j (Nat.zero_le _))
  isplitl [HFl]
  · have e : iprop(((wC j).view.loc (c : Thread nD τ) ↦[chunkSet j]{fullShare} (wC j).view.write (Elt F) f ((xC j).view.read (Elt F) (X c)) Finset.univ)
      ∗ ((xC j).view.loc (c : Thread nD τ) ↦[(xC j).view.set]{fullShare} X c)) = copied X c j := by
      rw [xC_set]; unfold copied; exact congrArg (fun A : sProp 𝕄 => iprop(A ∗ _)) (piece_landed X c j f)
    unfold piece₁
    rw [← e]
    iexact HFl
  iexact HF

variable (T : Dev nD → (cc0_scratch1 : Ref sig .tc).ty.Contents (Elt F)) (K : Dev nD × CI → ℕ)

/-- The device waiting for its pieces, those below `n` landed; nothing sent yet. -/
def Ins (c : Dev nD) (n : ℕ) : sProp 𝕄 :=
  iprop(Ctx T K c (recvDue c 1 + barDue c 16) ∗ Front 0 (piece₁ X c) (piece₂ X c) n)

theorem step_copied (c : Dev nD) (j : Fin 8) {hsrc : (xC j).view.WordExact} {hd : (wC j).view.WordExact}
    {α : Type} {Q : α → sProp 𝕄} {kk : PUnit → Prog (TpuEff nD τ sig (Elt F) Λ₀ .tc) α} :
    Ins X T K c j.val ⊢ iprop((Ins X T K c (j.val + 1) -∗ WP c (kk ⟨⟩) Q)
      -∗ WP c (.op (.waitDma2 (inS j) (xC j) (wC j) hsrc hd) kk) Q) := by
  have hq : (inS j).val < 25 := by rw [inS_val]; omega
  unfold Ins Ctx
  iintro ⟨⟨#HR, #HL, ⟨%W, HO⟩⟩, HF⟩ Hk
  ihave HF := (front_take (piece₁ X c) (piece₂ X c) j) $$ HF
  icases HF with ⟨HA, HF⟩
  ihave HA := (Entails.of_eq (show piece₁ X c j = Transfers.Flight EC (c : Thread nD τ) (.dma (inS j)) () P (copied X c j) from rfl)) $$ HA
  iapply (Transfers.wp_waitLocalO EC 𝒱₀ (c : Thread nD τ) none () (chunk_credit j)) $$ [HA HO]
  · isplitl [HA]; · iexact HA
    isplitl [HO]; · iexact HO
    iapply (mayWait_low c (inS j) hq 1 16) $$ HL
  iintro ⟨HD, Hs, HO⟩
  iapply Hk
  isplitl [HO]
  · isplitr; · iexact HR
    isplitr; · iexact HL
    iexists _; iexact HO
  · iapply (front_put (piece₁ X c) (piece₂ X c) j (Nat.zero_le _))
    isplitl [HD Hs]
    · unfold piece₂; isplitl [HD] <;> iassumption
    iexact HF

/-- Piece `j` of an array. -/
def chunk (x : Arr F) (j : Fin 8) : Vec F S256x1024 .f32 := wM.view.readAt (Elt F) (chunkR j).toLoadRect x
/-- Block `b` of an array. -/
def block (x : Arr F) (b : Fin 16) : Vec F S128x1024 .f32 := wM.view.readAt (Elt F) (blockR b).toLoadRect x

/-- Reading a piece that has landed. -/
theorem step_chunk (c : Dev nD) (n : ℕ) (j : Fin 8) (hj : j.val < n) {hl : wM.view.LoadsAt (chunkR j).toLoadRect}
    {α : Type} {Q : α → sProp 𝕄} {kk : Vec F S256x1024 .f32 → Prog (TpuEff nD τ sig (Elt F) Λ₀ .tc) α} :
    Ins X T K c n ⊢ iprop((Ins X T K c n -∗ WP c (kk (chunk (X c) j)) Q)
      -∗ WP c (.op (.load wM (chunkR j).toLoadRect hl) kk) Q) := by
  unfold Ins
  iintro ⟨HC, HF⟩ Hk
  ihave HF := (front_look (piece₁ X c) (piece₂ X c) n j (Nat.zero_le _) hj) $$ HF
  icases HF with ⟨HA, HF⟩
  ihave HA := (Entails.of_eq (show piece₂ X c j = iprop(((wM.view.loc (c : Thread nD τ) ↦[chunkSet j]{fullShare} X c) ∗ (xLoc c ↦[chunkSet j]{fullShare} X c))
    ∗ semVal ((c : Thread nD τ), .dma (inS j)) 0) from rfl)) $$ HA
  icases HA with ⟨⟨Hw, Hx⟩, Hs⟩
  iapply (wp_load 𝒱₀ (c : Thread nD τ) none Set.univ (m := wM) (r := (chunkR j).toLoadRect) (S := chunkSet j) (whole_setOn cc0_scratch0 (chunkR j).set)) $$ Hw
  iintro Hw
  iapply Hk
  isplitl [HC]; · iexact HC
  iapply HF
  unfold piece₂ copied
  isplitr [Hs]
  · isplitl [Hw] <;> iassumption
  iexact Hs

/-! ## The blocks of the result -/

/-- The array whose block `b` is `p b`. -/
def assemble (p : Fin 16 → Vec F S128x1024 .f32) : Arr F := fun i => p (blockOf i) (inBlock i)

theorem emb_block (b : Fin 16) (x : S128x1024.Idx) : blockOf ((blockR b).emb x) = b ∧ inBlock ((blockR b).emb x) = x := by
  have h0 : (((blockR b).emb x : S2048x1024.Idx) 0).val = 128 * b.val + 1 * (x 0).val := Rect.emb_apply _ _ _
  have h1 : (((blockR b).emb x : S2048x1024.Idx) 1).val = 0 + 1 * (x 1).val := Rect.emb_apply _ _ _
  have hx : (x 0).val < 128 := (x 0).isLt
  constructor
  · apply Fin.ext
    show (((blockR b).emb x : S2048x1024.Idx) 0).val / 128 = b.val
    omega
  · funext a
    apply Fin.ext
    match a with
    | ⟨0, _⟩ => show (((blockR b).emb x : S2048x1024.Idx) 0).val % 128 = (x 0).val; omega
    | ⟨1, _⟩ => show (((blockR b).emb x : S2048x1024.Idx) 1).val = (x 1).val; omega

theorem assemble_emb (p : Fin 16 → Vec F S128x1024 .f32) (b : Fin 16) (x : S128x1024.Idx) : assemble p ((blockR b).emb x) = p b x := by
  unfold assemble; rw [(emb_block b x).1, (emb_block b x).2]

/-- The working buffer read whole, block by block. -/
theorem step_block (c : Dev nD) (x : Arr F) (b : Fin 16) {hl : wM.view.LoadsAt (blockR b).toLoadRect}
    {α : Type} {Q : α → sProp 𝕄} {kk : Vec F S128x1024 .f32 → Prog (TpuEff nD τ sig (Elt F) Λ₀ .tc) α} :
    (wLoc c ↦{fullShare} x) ⊢ iprop(((wLoc c ↦{fullShare} x) -∗ WP c (kk (block x b)) Q)
      -∗ WP c (.op (.load wM (blockR b).toLoadRect hl) kk) Q) :=
  wp_load 𝒱₀ (c : Thread nD τ) none Set.univ (m := wM) (Finset.subset_univ _)

/-- Reading block `b` of the result's buffer, whatever it holds. -/
theorem step_out_raw (c : Dev nD) (b : Fin 16) {hl : oM.view.LoadsAt (blockR b).toLoadRect}
    {α : Type} {Q : α → sProp 𝕄} {kk : Vec F S128x1024 .f32 → Prog (TpuEff nD τ sig (Elt F) Λ₀ .tc) α} :
    outRaw c b ⊢ iprop((∀ v, outRaw c b -∗ WP c (kk v) Q) -∗ WP c (.op (.load oM (blockR b).toLoadRect hl) kk) Q) := by
  iintro H Hk
  ihave H := (Entails.of_eq (show outRaw (F := F) c b = iprop(∃ f, oM.view.loc (c : Thread nD τ) ↦[blockSet b]{fullShare} f) from rfl)) $$ H
  icases H with ⟨%f, H⟩
  iapply (wp_load 𝒱₀ (c : Thread nD τ) none Set.univ (m := oM) (r := (blockR b).toLoadRect) (S := blockSet b) (whole_setOn cc0_stg0_0 (blockR b).set)) $$ H
  iintro H
  iapply Hk
  unfold outRaw
  iexists f; iexact H

/-- Reading block `b` of the result's buffer, once it holds `p b`. -/
theorem step_out (c : Dev nD) (p : Fin 16 → Vec F S128x1024 .f32) (b : Fin 16) {hl : oM.view.LoadsAt (blockR b).toLoadRect}
    {α : Type} {Q : α → sProp 𝕄} {kk : Vec F S128x1024 .f32 → Prog (TpuEff nD τ sig (Elt F) Λ₀ .tc) α} :
    outAt c (assemble p) b ⊢ iprop((outAt c (assemble p) b -∗ WP c (kk (p b)) Q) -∗ WP c (.op (.load oM (blockR b).toLoadRect hl) kk) Q) := by
  have e : p b = oM.view.readAt (Elt F) (blockR b).toLoadRect (assemble p) := funext fun x => (assemble_emb p b x).symm
  rw [e]
  exact wp_load 𝒱₀ (c : Thread nD τ) none Set.univ (m := oM) (whole_setOn cc0_stg0_0 _)

/-- Writing `p b` to block `b` of the result's buffer. -/
theorem step_write (c : Dev nD) (p : Fin 16 → Vec F S128x1024 .f32) (b : Fin 16) (w : Vec F S128x1024 .f32) (hw : w = p b)
    {hx : (oM.access (blockR b)).Stores Finset.univ} {hm : (Finset.univ : Finset (blockR b).shape.Idx) = Finset.univ ∨ ∀ a, (blockR b).stride a = 1}
    {α : Type} {Q : α → sProp 𝕄} {kk : PUnit → Prog (TpuEff nD τ sig (Elt F) Λ₀ .tc) α} :
    outRaw c b ⊢ iprop((outAt c (assemble p) b -∗ WP c (kk ⟨⟩) Q) -∗ WP c (.op (.store oM (blockR b) w Finset.univ hx hm) kk) Q) := by
  subst hw
  iintro H Hk
  ihave H := (Entails.of_eq (show outRaw (F := F) c b = iprop(∃ f, oM.view.loc (c : Thread nD τ) ↦[blockSet b]{fullShare} f) from rfl)) $$ H
  icases H with ⟨%f, H⟩
  iapply (wp_store 𝒱₀ (c : Thread nD τ) none Set.univ (m := oM) (r := blockR b) (Mk := Finset.univ) (oB_set b).le) $$ H
  iintro H
  iapply Hk
  have e : ((oM.access (blockR b)).loc (c : Thread nD τ) ↦[blockSet b]{fullShare} (oM.access (blockR b)).write (Elt F) f (p b) Finset.univ : sProp 𝕄)
      = outAt c (assemble p) b := by
    unfold outAt
    refine pointsTo_congr fun i hi => ?_
    rw [← oB_set] at hi
    obtain ⟨x, -, rfl⟩ := Finset.mem_map.mp hi
    exact (View.write_emb_of_mem (v := oM.access (blockR b)) f (p b) (Finset.mem_univ x)).trans (assemble_emb p b x).symm
  rw [← e]
  iexact H

end Cert.KernelIdeal.Exchange

end
-- ==== Proof.Contents.lean ====
/-
  What the device's buffers hold: the totals it sends, the blocks of the result in their two versions.
-/
module

public import proofs.«01_k».proof.Proof.Local

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The column totals of an array, added up piece by piece: the row a device sends. -/
def totals (x : Arr F) : Vec F S1x1024 .f32 :=
  k0_pay5 (k0_pay4 (k0_pay3 k0_pay2 (chunk x 0) (chunk x 1) (chunk x 2)) (chunk x 3) (chunk x 4) (chunk x 5) (chunk x 6)) (chunk x 7)

/-- The running sums within one block: the lower triangle of ones times the block. -/
def scanned (x : Arr F) (b : Fin 16) : Vec F S128x1024 .f32 := k0_pay8 (block x b)

set_option backward.proofsInPublic true in
/-- The sum of the blocks below block `n`: block by block, the last row of its running sums. -/
def carry (x : Arr F) : ℕ → Vec F S1x1024 .f32
  | 0 => k0_pay7
  | n + 1 => addf (carry x n) (extractStridedSlice S1x1024 ![127, 0] (scanned x ⟨n % 16, Nat.mod_lt _ (by decide)⟩) slices_S128x1024_o127_0_S1x1024)

/-- A device's position as the kernel reads it. -/
def place (c : Dev nD) : BitVec 32 := Scalar.remsi (Scalar.divsi (Dev.word c) 1#32) 16#32

/-- The rows sent by all devices. -/
abbrev rows (X : Dev nD → Arr F) (c : Dev nD) : (cc0_scratch1 : Ref sig .tc).ty.Contents (Elt F) := totals (X c)

/-- The sum of the rows received from the devices before `c`. -/
def before (X : Dev nD → Arr F) (c : Dev nD) : Vec F S1x1024 .f32 := k0_pay39 (place c) (recvd (rows X) c)

/-- The blocks of the result after the first pass. -/
abbrev pass₁ (X : Dev nD → Arr F) (c : Dev nD) (b : Fin 16) : Vec F S128x1024 .f32 := scanned (X c) b
/-- The blocks of the result after the second pass. -/
def pass₂ (X : Dev nD → Arr F) (c : Dev nD) (b : Fin 16) : Vec F S128x1024 .f32 :=
  k0_pay41 (carry (X c) b.val) (before X c) (scanned (X c) b)

/-- The result of device `c`. -/
def result (X : Dev nD → Arr F) (c : Dev nD) : Arr F := assemble (pass₂ X c)

/-! ## The two passes over the result -/

variable (X : Dev nD → Arr F) (c : Dev nD)

/-- The first pass has written the blocks below `n`. -/
def One (n : ℕ) : sProp 𝕄 :=
  iprop((wLoc c ↦{fullShare} X c) ∗ Front 0 (outRaw (F := F) c) (outAt c (assemble (pass₁ X c))) n)
/-- The second pass has rewritten the blocks below `n`. -/
def Two (n : ℕ) : sProp 𝕄 := Front 0 (outAt c (assemble (pass₁ X c))) (outAt c (assemble (pass₂ X c))) n

/-- The first pass over block `b`. -/
theorem step_first (b : Fin 16) (p : Vec F S128x1024 .f32 → Vec F S128x1024 .f32) (hp : p (block (X c) b) = pass₁ X c b)
    {hl : wM.view.LoadsAt (blockR b).toLoadRect} {ho : oM.view.LoadsAt (blockR b).toLoadRect}
    {hx : (oM.access (blockR b)).Stores Finset.univ} {hm : (Finset.univ : Finset (blockR b).shape.Idx) = Finset.univ ∨ ∀ a, (blockR b).stride a = 1}
    {α : Type} {Q : α → sProp 𝕄}
    {kk : Vec F S128x1024 .f32 → PUnit → Prog (TpuEff nD τ sig (Elt F) Λ₀ .tc) α} :
    One X c b.val ⊢ iprop((One X c (b.val + 1) -∗ WP c (kk (block (X c) b) ⟨⟩) Q)
      -∗ WP c (.op (.load wM (blockR b).toLoadRect hl) fun v => .op (.load oM (blockR b).toLoadRect ho) fun _ =>
        .op (.store oM (blockR b) (p v) Finset.univ hx hm) (kk v)) Q) := by
  unfold One
  iintro ⟨Hw, HF⟩ Hk
  ihave HF := (front_take (outRaw (F := F) c) (outAt c (assemble (pass₁ X c))) b) $$ HF
  icases HF with ⟨Hb, HF⟩
  iapply (step_block c (X c) b) $$ Hw
  iintro Hw
  iapply (step_out_raw c b) $$ Hb
  iintro %u Hb
  iapply (step_write c (pass₁ X c) b _ hp) $$ Hb
  iintro Hb
  iapply Hk
  isplitl [Hw]; · iexact Hw
  iapply (front_put (outRaw (F := F) c) (outAt c (assemble (pass₁ X c))) b (Nat.zero_le _))
  isplitl [Hb] <;> iassumption

/-- Reading block `b` between the two passes. -/
theorem step_middle (b : Fin 16) {ho : oM.view.LoadsAt (blockR b).toLoadRect}
    {α : Type} {Q : α → sProp 𝕄}
    {kk : Vec F S128x1024 .f32 → Prog (TpuEff nD τ sig (Elt F) Λ₀ .tc) α} :
    Two X c b.val ⊢ iprop((Two X c b.val -∗ WP c (kk (scanned (X c) b)) Q) -∗ WP c (.op (.load oM (blockR b).toLoadRect ho) kk) Q) := by
  unfold Two
  iintro HF Hk
  ihave HF := (front_take (outAt c (assemble (pass₁ X c))) (outAt c (assemble (pass₂ X c))) b) $$ HF
  unfold Rest
  icases HF with ⟨Hb, ⟨HF, HG⟩⟩
  iapply (step_out c (pass₁ X c) b) $$ Hb
  iintro Hb
  iapply Hk
  unfold Front
  rw [since_eq b, bigSep_ins (not_mem_since b)]
  isplitr [HG]
  · isplitl [Hb] <;> iassumption
  iexact HG

/-- Rewriting block `b` in the second pass, having read it. -/
theorem step_rewrite (b : Fin 16) (w : Vec F S128x1024 .f32) (hw : w = pass₂ X c b) {ho : oM.view.LoadsAt (blockR b).toLoadRect}
    {hx : (oM.access (blockR b)).Stores Finset.univ} {hm : (Finset.univ : Finset (blockR b).shape.Idx) = Finset.univ ∨ ∀ a, (blockR b).stride a = 1}
    {α : Type} {Q : α → sProp 𝕄}
    {kk : PUnit → Prog (TpuEff nD τ sig (Elt F) Λ₀ .tc) α} :
    Two X c b.val ⊢ iprop((Two X c (b.val + 1) -∗ WP c (kk ⟨⟩) Q)
      -∗ WP c (.op (.load oM (blockR b).toLoadRect ho) fun _ => .op (.store oM (blockR b) w Finset.univ hx hm) kk) Q) := by
  unfold Two
  iintro HF Hk
  ihave HF := (front_take (outAt c (assemble (pass₁ X c))) (outAt c (assemble (pass₂ X c))) b) $$ HF
  icases HF with ⟨Hb, HF⟩
  iapply (step_out c (pass₁ X c) b) $$ Hb
  iintro Hb
  iapply (step_write c (pass₂ X c) b w hw) $$ [Hb]
  · unfold outRaw outAt; iexists _; iexact Hb
  iintro Hb
  iapply Hk
  iapply (front_put (outAt c (assemble (pass₁ X c))) (outAt c (assemble (pass₂ X c))) b (Nat.zero_le _))
  isplitl [Hb] <;> iassumption

/-- The second pass over block `b`. -/
theorem step_second (b : Fin 16) (p : Vec F S128x1024 .f32 → Vec F S128x1024 .f32) (hp : p (scanned (X c) b) = pass₂ X c b)
    {hl ho : oM.view.LoadsAt (blockR b).toLoadRect}
    {hx : (oM.access (blockR b)).Stores Finset.univ} {hm : (Finset.univ : Finset (blockR b).shape.Idx) = Finset.univ ∨ ∀ a, (blockR b).stride a = 1}
    {α : Type} {Q : α → sProp 𝕄}
    {kk : PUnit → Prog (TpuEff nD τ sig (Elt F) Λ₀ .tc) α} :
    Two X c b.val ⊢ iprop((Two X c (b.val + 1) -∗ WP c (kk ⟨⟩) Q)
      -∗ WP c (.op (.load oM (blockR b).toLoadRect hl) fun v => .op (.load oM (blockR b).toLoadRect ho) fun _ =>
        .op (.store oM (blockR b) (p v) Finset.univ hx hm) kk) Q) := by
  iintro HF Hk
  iapply (step_middle X c b) $$ HF
  iintro HF
  iapply (step_rewrite X c b _ hp) $$ HF
  iexact Hk

end Cert.KernelIdeal.Exchange

end
-- ==== Proof.Parts.lean ====
/-
  The kernel's body, part by part.
-/
module

public import proofs.«01_k».proof.Proof.Contents

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The device a printed device number names, for the signals and for the sends. -/
theorem dev_peer (c : Dev nD) (k : Fin 16) (n : ℕ) (h : n < nD) (e : n = (c.val + k.val) % 16) : (⟨n, h⟩ : Dev nD) = peer c k :=
  Fin.ext e

variable (X : Dev nD → Arr F) (K : Dev nD × CI → ℕ) (c : Dev nD)
variable {harg0 : xA.IsWhole} {harg1 : oM.IsWhole} {harg2 : wM.IsWhole} {harg3 : sM.IsWhole} {harg4 : rM.IsWhole}

abbrev barA : Sems sig S_ := SemArray.scalar (sig.barrier 0 rfl)

/-- A program at its end. -/
theorem done_ret {α : Type} {a : α} {Q : α → sProp 𝕄} : Q a ⊢ WP c (.ret a) Q := by
  rw [WP, wp_ret]; iintro H; imodintro; iexact H

/-- The device's place; the signals at the offsets 1 to 5. -/
theorem part1_run {Q : (Σ' (d0 : Dev nD) (v2 : BitVec 32) (v3 : Sems sig S_) (v24 : BitVec 32), BitVec 32) → sProp 𝕄} :
    Sig (rows X) K c 1 ⊢ iprop((∀ v, Sig (rows X) K c 6 -∗ Q ⟨c, place c, barA, v, 16#32⟩)
      -∗ WP c (k0_part1 xA harg0 oM harg1 wM harg2 sM harg3 rM harg4 cc0_scratch3 cc0_scratch4 cc0_scratch5) Q) := by
  rw [k0_part1_eq_skeleton]
  unfold k0_part1_skel
  simp only [semSignalWord, semWaitWord, Prog.lift, Prog.bind_op, Prog.bind_ret, Prog.pure_eq_ret, wp_deviceId]
  unfold place
  iintro H Hk
  iapply (step_signal (rows X) K c ⟨1, by decide⟩ (by decide) _ (dev_peer c ⟨1, by decide⟩ _ _ (k0_dev1_eq c))) $$ H
  iintro H
  iapply (step_signal (rows X) K c ⟨2, by decide⟩ (by decide) _ (dev_peer c ⟨2, by decide⟩ _ _ (k0_dev2_eq c))) $$ H
  iintro H
  iapply (step_signal (rows X) K c ⟨3, by decide⟩ (by decide) _ (dev_peer c ⟨3, by decide⟩ _ _ (k0_dev3_eq c))) $$ H
  iintro H
  iapply (step_signal (rows X) K c ⟨4, by decide⟩ (by decide) _ (dev_peer c ⟨4, by decide⟩ _ _ (k0_dev4_eq c))) $$ H
  iintro H
  iapply (step_signal (rows X) K c ⟨5, by decide⟩ (by decide) _ (dev_peer c ⟨5, by decide⟩ _ _ (k0_dev5_eq c))) $$ H
  iintro H
  iapply (done_ret c)
  iapply Hk
  iexact H

/-- The signals at the offsets 6 to 11. -/
theorem part2_run (v2 v24 w : BitVec 32) {Q : (Σ' (v48 : BitVec 32), BitVec 32) → sProp 𝕄} :
    Sig (rows X) K c 6 ⊢ iprop((∀ v, Sig (rows X) K c 12 -∗ Q ⟨v, 16#32⟩)
      -∗ WP c (k0_part2 xA harg0 oM harg1 wM harg2 sM harg3 rM harg4 cc0_scratch3 cc0_scratch4 cc0_scratch5 c v2 barA v24 w) Q) := by
  rw [k0_part2_eq_skeleton]
  unfold k0_part2_skel
  simp only [semSignalWord, semWaitWord, Prog.lift, Prog.bind_op, Prog.bind_ret, Prog.pure_eq_ret, wp_deviceId]
  iintro H Hk
  iapply (step_signal (rows X) K c ⟨6, by decide⟩ (by decide) _ (dev_peer c ⟨6, by decide⟩ _ _ (k0_dev6_eq c))) $$ H
  iintro H
  iapply (step_signal (rows X) K c ⟨7, by decide⟩ (by decide) _ (dev_peer c ⟨7, by decide⟩ _ _ (k0_dev7_eq c))) $$ H
  iintro H
  iapply (step_signal (rows X) K c ⟨8, by decide⟩ (by decide) _ (dev_peer c ⟨8, by decide⟩ _ _ (k0_dev8_eq c))) $$ H
  iintro H
  iapply (step_signal (rows X) K c ⟨9, by decide⟩ (by decide) _ (dev_peer c ⟨9, by decide⟩ _ _ (k0_dev9_eq c))) $$ H
  iintro H
  iapply (step_signal (rows X) K c ⟨10, by decide⟩ (by decide) _ (dev_peer c ⟨10, by decide⟩ _ _ (k0_dev10_eq c))) $$ H
  iintro H
  iapply (step_signal (rows X) K c ⟨11, by decide⟩ (by decide) _ (dev_peer c ⟨11, by decide⟩ _ _ (k0_dev11_eq c))) $$ H
  iintro H
  iapply (done_ret c)
  iapply Hk
  iexact H

/-- The signals at the offsets 12 to 15; the copies of the first two pieces. -/
theorem part3_run (v2 v48 w : BitVec 32) {Q : PUnit → sProp 𝕄} :
    iprop(Sig (rows X) K c 12 ∗ Front 0 (piece₀ X c) (piece₁ X c) 0) ⊢ iprop(((Sig (rows X) K c 16 ∗ Front 0 (piece₀ X c) (piece₁ X c) 2) -∗ Q ⟨⟩)
      -∗ WP c (k0_part3 xA harg0 oM harg1 wM harg2 sM harg3 rM harg4 cc0_scratch3 cc0_scratch4 cc0_scratch5 c v2 barA v48 w) Q) := by
  rw [k0_part3_eq_skeleton]
  unfold k0_part3_skel
  simp only [semSignalWord, semWaitWord, Prog.lift, Prog.bind_op, Prog.bind_ret, Prog.pure_eq_ret, wp_deviceId]
  iintro ⟨H, G⟩ Hk
  iapply (step_signal (rows X) K c ⟨12, by decide⟩ (by decide) _ (dev_peer c ⟨12, by decide⟩ _ _ (k0_dev12_eq c))) $$ H
  iintro H
  iapply (step_signal (rows X) K c ⟨13, by decide⟩ (by decide) _ (dev_peer c ⟨13, by decide⟩ _ _ (k0_dev13_eq c))) $$ H
  iintro H
  iapply (step_signal (rows X) K c ⟨14, by decide⟩ (by decide) _ (dev_peer c ⟨14, by decide⟩ _ _ (k0_dev14_eq c))) $$ H
  iintro H
  iapply (step_signal (rows X) K c ⟨15, by decide⟩ (by decide) _ (dev_peer c ⟨15, by decide⟩ _ _ (k0_dev15_eq c))) $$ H
  iintro H
  iapply (step_copy X c ⟨0, by decide⟩) $$ G
  iintro G
  iapply (step_copy X c ⟨1, by decide⟩) $$ G
  iintro G
  iapply (done_ret c)
  iapply Hk
  isplitl [H] <;> iassumption

/-- The copies of the other six pieces. -/
theorem part4_run {Q : FVec F S1x1024 .f32 → sProp 𝕄} :
    Front 0 (piece₀ X c) (piece₁ X c) 2 ⊢ iprop((Front 0 (piece₀ X c) (piece₁ X c) 8 -∗ Q k0_pay2)
      -∗ WP c (k0_part4 xA harg0 oM harg1 wM harg2 sM harg3 rM harg4 cc0_scratch3 cc0_scratch4 cc0_scratch5) Q) := by
  rw [k0_part4_eq_skeleton]
  unfold k0_part4_skel
  simp only [semSignalWord, semWaitWord, Prog.lift, Prog.bind_op, Prog.bind_ret, Prog.pure_eq_ret, wp_deviceId]
  iintro G Hk
  iapply (step_copy X c ⟨2, by decide⟩) $$ G
  iintro G
  iapply (step_copy X c ⟨3, by decide⟩) $$ G
  iintro G
  iapply (step_copy X c ⟨4, by decide⟩) $$ G
  iintro G
  iapply (step_copy X c ⟨5, by decide⟩) $$ G
  iintro G
  iapply (step_copy X c ⟨6, by decide⟩) $$ G
  iintro G
  iapply (step_copy X c ⟨7, by decide⟩) $$ G
  iintro G
  iapply (done_ret c)
  iapply Hk
  iexact G

/-- The first four pieces landed, three of them added up. -/
theorem part5_run (v96 : FVec F S1x1024 .f32) {Q : FVec F S1x1024 .f32 → sProp 𝕄} :
    Ins X (rows X) K c 0 ⊢ iprop((Ins X (rows X) K c 4 -∗ Q (k0_pay3 v96 (chunk (X c) 0) (chunk (X c) 1) (chunk (X c) 2)))
      -∗ WP c (k0_part5 xA harg0 oM harg1 wM harg2 sM harg3 rM harg4 cc0_scratch3 cc0_scratch4 cc0_scratch5 v96) Q) := by
  rw [k0_part5_eq_skeleton]
  unfold k0_part5_skel
  simp only [semSignalWord, semWaitWord, Prog.lift, Prog.bind_op, Prog.bind_ret, Prog.pure_eq_ret, wp_deviceId]
  rw [show k0_pay3 v96 (chunk (X c) 0) (chunk (X c) 1) (chunk (X c) 2) = k0_pay3 v96 (chunk (X c) ⟨0, by decide⟩) (chunk (X c) ⟨1, by decide⟩) (chunk (X c) ⟨2, by decide⟩) from rfl]
  iintro H Hk
  iapply (step_copied X (rows X) K c ⟨0, by decide⟩) $$ H
  iintro H
  iapply (step_chunk X (rows X) K c 1 ⟨0, by decide⟩ (by decide)) $$ H
  iintro H
  iapply (step_copied X (rows X) K c ⟨1, by decide⟩) $$ H
  iintro H
  iapply (step_chunk X (rows X) K c 2 ⟨1, by decide⟩ (by decide)) $$ H
  iintro H
  iapply (step_copied X (rows X) K c ⟨2, by decide⟩) $$ H
  iintro H
  iapply (step_chunk X (rows X) K c 3 ⟨2, by decide⟩ (by decide)) $$ H
  iintro H
  iapply (step_copied X (rows X) K c ⟨3, by decide⟩) $$ H
  iintro H
  iapply (done_ret c)
  iapply Hk
  iexact H

/-- Four more pieces added up. -/
theorem part6_run (v120 : FVec F S1x1024 .f32) {Q : FVec F S1x1024 .f32 → sProp 𝕄} :
    Ins X (rows X) K c 4 ⊢ iprop((Ins X (rows X) K c 7 -∗ Q (k0_pay4 v120 (chunk (X c) 3) (chunk (X c) 4) (chunk (X c) 5) (chunk (X c) 6)))
      -∗ WP c (k0_part6 xA harg0 oM harg1 wM harg2 sM harg3 rM harg4 cc0_scratch3 cc0_scratch4 cc0_scratch5 v120) Q) := by
  rw [k0_part6_eq_skeleton]
  unfold k0_part6_skel
  simp only [semSignalWord, semWaitWord, Prog.lift, Prog.bind_op, Prog.bind_ret, Prog.pure_eq_ret, wp_deviceId]
  rw [show k0_pay4 v120 (chunk (X c) 3) (chunk (X c) 4) (chunk (X c) 5) (chunk (X c) 6) = k0_pay4 v120 (chunk (X c) ⟨3, by decide⟩) (chunk (X c) ⟨4, by decide⟩) (chunk (X c) ⟨5, by decide⟩) (chunk (X c) ⟨6, by decide⟩) from rfl]
  iintro H Hk
  iapply (step_chunk X (rows X) K c 4 ⟨3, by decide⟩ (by decide)) $$ H
  iintro H
  iapply (step_copied X (rows X) K c ⟨4, by decide⟩) $$ H
  iintro H
  iapply (step_chunk X (rows X) K c 5 ⟨4, by decide⟩ (by decide)) $$ H
  iintro H
  iapply (step_copied X (rows X) K c ⟨5, by decide⟩) $$ H
  iintro H
  iapply (step_chunk X (rows X) K c 6 ⟨5, by decide⟩ (by decide)) $$ H
  iintro H
  iapply (step_copied X (rows X) K c ⟨6, by decide⟩) $$ H
  iintro H
  iapply (step_chunk X (rows X) K c 7 ⟨6, by decide⟩ (by decide)) $$ H
  iintro H
  iapply (done_ret c)
  iapply Hk
  iexact H

/-- What the first send needs beside the totals: the barrier's credit and position, and the sends' duties. -/
def preSend : sProp 𝕄 :=
  iprop(cred (tallyAt (barCell c) () 15) ∗ atPos ER (barCell c) 0 ∅ 0
    ∗ bigSep (since 1) fun k => iprop(dutyTok ER (sendCell c k) 0 0 ∗ dutyTok ER (recvCell (peer c k) k) 0 0))
/-- The state from the first send on that the sends leave alone. -/
def postSend : sProp 𝕄 :=
  iprop(Front 0 (piece₁ X c) (piece₂ X c) 8 ∗ semVal (barCell c) 0 ∗ rowPts (rows X) c 0)

/-- The totals written over the row to send. -/
theorem totals_stored (f : Buf (Elt F) (sLoc c)) {inb : ∀ a, (![0, 0] : Fin 2 → Nat) a + S1x1024.size a ≤ S1x1024.size a} :
    ((sM.access (Rect.unit (s := S1x1024) ![0, 0] S1x1024.size inb)).loc (c : Thread nD τ) ↦{fullShare}
      (sM.access (Rect.unit (s := S1x1024) ![0, 0] S1x1024.size inb)).write (Elt F) f (totals (X c)) Finset.univ : sProp 𝕄)
      = sLoc c ↦{fullShare} rows X c := by
  have hz : (![0, 0] : Fin 2 → Nat) = fun _ => 0 := by decide
  exact congrArg (fun g => (sLoc c ↦{fullShare} g : sProp 𝕄)) (Memref.write_access_unit_zero_univ (Elt F) cc0_scratch1 hz inb f (totals (X c)))

/-- Past the barrier, every send is ready. -/
theorem sends_start : iprop(Ctx (rows X) K c (recvDue c 1) ∗ bigSep (since 1) (barPay (F := F) c) ∗ bigSep (since 1) (rowPts (rows X) c)
      ∗ bigSep (since 1) fun k => iprop(dutyTok ER (sendCell c k) 0 0 ∗ dutyTok ER (recvCell (peer c k) k) 0 0))
    ⊢ Snd (rows X) K c 1 := by
  have e : bigSep (since 1) (sndRes (rows X) c) = iprop(bigSep (since 1) (barPay (F := F) c) ∗ bigSep (since 1) (rowPts (rows X) c)
      ∗ bigSep (since 1) fun k => iprop(dutyTok ER (sendCell c k) 0 0 ∗ dutyTok ER (recvCell (peer c k) k) 0 0)) :=
    (bigSep_sep' (since 1) (barPay (F := F) c) _).trans (congrArg (fun A : sProp 𝕄 => iprop(_ ∗ A)) (bigSep_sep' (since 1) (rowPts (rows X) c) _))
  unfold Snd
  iintro ⟨H, H1, H2, H3⟩
  isplitl [H]; · iexact H
  iapply (front_start (sndRes (rows X) c) (sntRes (F := F) c))
  rw [e]
  isplitl [H1]; · iexact H1
  isplitl [H2] <;> iassumption

/-- The last piece added up, the totals written, the barrier passed, the first row sent. -/
theorem part7_run (v2 : BitVec 32) (v152 : FVec F S1x1024 .f32)
    (hv : v152 = k0_pay4 (k0_pay3 k0_pay2 (chunk (X c) 0) (chunk (X c) 1) (chunk (X c) 2)) (chunk (X c) 3) (chunk (X c) 4) (chunk (X c) 5) (chunk (X c) 6)) {Q : PUnit → sProp 𝕄} :
    iprop(Ins X (rows X) K c 7 ∗ (∃ f : Buf (Elt F) (sLoc c), sLoc c ↦{fullShare} f) ∗ preSend (F := F) c) ⊢ iprop(((Snd (rows X) K c 2 ∗ postSend X c) -∗ Q ⟨⟩)
      -∗ WP c (k0_part7 xA harg0 oM harg1 wM harg2 sM harg3 rM harg4 cc0_scratch3 cc0_scratch4 cc0_scratch5 c v2 barA v152) Q) := by
  rw [k0_part7_eq_skeleton]
  unfold k0_part7_skel
  simp only [semSignalWord, semWaitWord, Prog.lift, Prog.bind_op, Prog.bind_ret, Prog.pure_eq_ret, wp_deviceId]
  iintro ⟨H, ⟨%f, G⟩, B⟩ Hk
  have hs := totals_stored X c f (inb := inb_S1x1024_S1x1024_0_0)
  rw [show totals (X c) = k0_pay5 v152 (chunk (X c) ⟨7, by decide⟩) by rw [hv]; rfl] at hs
  iapply (step_copied X (rows X) K c ⟨7, by decide⟩) $$ H
  iintro H
  iapply (step_chunk X (rows X) K c 8 ⟨7, by decide⟩ (by decide)) $$ H
  iintro H
  iapply (wp_load 𝒱₀ (c : Thread nD τ) none Set.univ (m := sM) (Finset.subset_univ _)) $$ G
  iintro G
  iapply (wp_store 𝒱₀ (c : Thread nD τ) none Set.univ (m := sM)
    (r := Rect.unit (s := S1x1024) ![0, 0] S1x1024.size inb_S1x1024_S1x1024_0_0) (Mk := Finset.univ) (Finset.subset_univ _)) $$ G
  iintro G
  ihave G := (Entails.of_eq hs) $$ G
  ihave H := (Entails.of_eq (show Ins X (rows X) K c 8 = iprop(Ctx (rows X) K c (recvDue c 1 + barDue c 16) ∗ Front 0 (piece₁ X c) (piece₂ X c) 8) from rfl)) $$ H
  icases H with ⟨H, P⟩
  ihave B := (Entails.of_eq (show preSend (F := F) c = iprop(cred (tallyAt (barCell c) () 15) ∗ atPos ER (barCell c) 0 ∅ 0
    ∗ bigSep (since 1) fun k => iprop(dutyTok ER (sendCell c k) 0 0 ∗ dutyTok ER (recvCell (peer c k) k) 0 0)) from rfl)) $$ B
  icases B with ⟨Bc, Ba, Bt⟩
  iapply (step_barrier (rows X) K c) $$ [H Bc Ba]
  · isplitl [H]; · iexact H
    isplitl [Bc] <;> iassumption
  iintro ⟨H, Bs, Bp⟩
  ihave G := (Entails.of_eq (row_split (rows X) c)) $$ G
  ihave G := (Entails.of_eq (by rw [univ_eq_insert, bigSep_ins zero_not_mem] : bigSep Finset.univ (rowPts (rows X) c) = iprop(rowPts (rows X) c 0 ∗ bigSep (since 1) (rowPts (rows X) c)))) $$ G
  icases G with ⟨G₀, G⟩
  ihave H := (sends_start X K c) $$ [H Bp G Bt]
  · isplitl [H]; · iexact H
    isplitl [Bp]; · iexact Bp
    isplitl [G] <;> iassumption
  iapply (step_send (rows X) K c ⟨1, by decide⟩ (by decide) _ (dev_peer c ⟨1, by decide⟩ _ _ (k0_dev16_eq c))) $$ H
  iintro H
  iapply (done_ret c)
  iapply Hk
  isplitl [H]; · iexact H
  unfold postSend
  isplitl [P]; · iexact P
  isplitl [Bs] <;> iassumption

/-- The sends at the offsets 2 to 4. -/
theorem part8_run (v2 : BitVec 32) {Q : PUnit → sProp 𝕄} :
    Snd (rows X) K c 2 ⊢ iprop((Snd (rows X) K c 5 -∗ Q ⟨⟩)
      -∗ WP c (k0_part8 xA harg0 oM harg1 wM harg2 sM harg3 rM harg4 cc0_scratch3 cc0_scratch4 cc0_scratch5 c v2) Q) := by
  rw [k0_part8_eq_skeleton]
  unfold k0_part8_skel
  simp only [semSignalWord, semWaitWord, Prog.lift, Prog.bind_op, Prog.bind_ret, Prog.pure_eq_ret, wp_deviceId]
  iintro H Hk
  iapply (step_send (rows X) K c ⟨2, by decide⟩ (by decide) _ (dev_peer c ⟨2, by decide⟩ _ _ (k0_dev17_eq c))) $$ H
  iintro H
  iapply (step_send (rows X) K c ⟨3, by decide⟩ (by decide) _ (dev_peer c ⟨3, by decide⟩ _ _ (k0_dev18_eq c))) $$ H
  iintro H
  iapply (step_send (rows X) K c ⟨4, by decide⟩ (by decide) _ (dev_peer c ⟨4, by decide⟩ _ _ (k0_dev19_eq c))) $$ H
  iintro H
  iapply (done_ret c)
  iapply Hk
  iexact H

/-- The sends at the offsets 5 to 7. -/
theorem part9_run (v2 : BitVec 32) {Q : PUnit → sProp 𝕄} :
    Snd (rows X) K c 5 ⊢ iprop((Snd (rows X) K c 8 -∗ Q ⟨⟩)
      -∗ WP c (k0_part9 xA harg0 oM harg1 wM harg2 sM harg3 rM harg4 cc0_scratch3 cc0_scratch4 cc0_scratch5 c v2) Q) := by
  rw [k0_part9_eq_skeleton]
  unfold k0_part9_skel
  simp only [semSignalWord, semWaitWord, Prog.lift, Prog.bind_op, Prog.bind_ret, Prog.pure_eq_ret, wp_deviceId]
  iintro H Hk
  iapply (step_send (rows X) K c ⟨5, by decide⟩ (by decide) _ (dev_peer c ⟨5, by decide⟩ _ _ (k0_dev20_eq c))) $$ H
  iintro H
  iapply (step_send (rows X) K c ⟨6, by decide⟩ (by decide) _ (dev_peer c ⟨6, by decide⟩ _ _ (k0_dev21_eq c))) $$ H
  iintro H
  iapply (step_send (rows X) K c ⟨7, by decide⟩ (by decide) _ (dev_peer c ⟨7, by decide⟩ _ _ (k0_dev22_eq c))) $$ H
  iintro H
  iapply (done_ret c)
  iapply Hk
  iexact H

/-- The sends at the offsets 8 to 10. -/
theorem part10_run (v2 : BitVec 32) {Q : PUnit → sProp 𝕄} :
    Snd (rows X) K c 8 ⊢ iprop((Snd (rows X) K c 11 -∗ Q ⟨⟩)
      -∗ WP c (k0_part10 xA harg0 oM harg1 wM harg2 sM harg3 rM harg4 cc0_scratch3 cc0_scratch4 cc0_scratch5 c v2) Q) := by
  rw [k0_part10_eq_skeleton]
  unfold k0_part10_skel
  simp only [semSignalWord, semWaitWord, Prog.lift, Prog.bind_op, Prog.bind_ret, Prog.pure_eq_ret, wp_deviceId]
  iintro H Hk
  iapply (step_send (rows X) K c ⟨8, by decide⟩ (by decide) _ (dev_peer c ⟨8, by decide⟩ _ _ (k0_dev23_eq c))) $$ H
  iintro H
  iapply (step_send (rows X) K c ⟨9, by decide⟩ (by decide) _ (dev_peer c ⟨9, by decide⟩ _ _ (k0_dev24_eq c))) $$ H
  iintro H
  iapply (step_send (rows X) K c ⟨10, by decide⟩ (by decide) _ (dev_peer c ⟨10, by decide⟩ _ _ (k0_dev25_eq c))) $$ H
  iintro H
  iapply (done_ret c)
  iapply Hk
  iexact H

/-- The sends at the offsets 11 to 13. -/
theorem part11_run (v2 : BitVec 32) {Q : PUnit → sProp 𝕄} :
    Snd (rows X) K c 11 ⊢ iprop((Snd (rows X) K c 14 -∗ Q ⟨⟩)
      -∗ WP c (k0_part11 xA harg0 oM harg1 wM harg2 sM harg3 rM harg4 cc0_scratch3 cc0_scratch4 cc0_scratch5 c v2) Q) := by
  rw [k0_part11_eq_skeleton]
  unfold k0_part11_skel
  simp only [semSignalWord, semWaitWord, Prog.lift, Prog.bind_op, Prog.bind_ret, Prog.pure_eq_ret, wp_deviceId]
  iintro H Hk
  iapply (step_send (rows X) K c ⟨11, by decide⟩ (by decide) _ (dev_peer c ⟨11, by decide⟩ _ _ (k0_dev26_eq c))) $$ H
  iintro H
  iapply (step_send (rows X) K c ⟨12, by decide⟩ (by decide) _ (dev_peer c ⟨12, by decide⟩ _ _ (k0_dev27_eq c))) $$ H
  iintro H
  iapply (step_send (rows X) K c ⟨13, by decide⟩ (by decide) _ (dev_peer c ⟨13, by decide⟩ _ _ (k0_dev28_eq c))) $$ H
  iintro H
  iapply (done_ret c)
  iapply Hk
  iexact H

/-- The rows received in the slots 1 to 3. -/
theorem part16_run (v2 : BitVec 32) {Q : PUnit → sProp 𝕄} :
    Rcv (rows X) K c 1 ⊢ iprop((Rcv (rows X) K c 4 -∗ Q ⟨⟩)
      -∗ WP c (k0_part16 xA harg0 oM harg1 wM harg2 sM harg3 rM harg4 cc0_scratch3 cc0_scratch4 cc0_scratch5 v2) Q) := by
  rw [k0_part16_eq_skeleton]
  unfold k0_part16_skel
  simp only [semSignalWord, semWaitWord, Prog.lift, Prog.bind_op, Prog.bind_ret, Prog.pure_eq_ret, wp_deviceId]
  iintro H Hk
  iapply (step_recv (rows X) K c ⟨1, by decide⟩ (by decide)) $$ H
  iintro H
  iapply (step_recv (rows X) K c ⟨2, by decide⟩ (by decide)) $$ H
  iintro H
  iapply (step_recv (rows X) K c ⟨3, by decide⟩ (by decide)) $$ H
  iintro H
  iapply (done_ret c)
  iapply Hk
  iexact H

/-- The rows received in the slots 4 to 6. -/
theorem part17_run (v2 : BitVec 32) {Q : PUnit → sProp 𝕄} :
    Rcv (rows X) K c 4 ⊢ iprop((Rcv (rows X) K c 7 -∗ Q ⟨⟩)
      -∗ WP c (k0_part17 xA harg0 oM harg1 wM harg2 sM harg3 rM harg4 cc0_scratch3 cc0_scratch4 cc0_scratch5 v2) Q) := by
  rw [k0_part17_eq_skeleton]
  unfold k0_part17_skel
  simp only [semSignalWord, semWaitWord, Prog.lift, Prog.bind_op, Prog.bind_ret, Prog.pure_eq_ret, wp_deviceId]
  iintro H Hk
  iapply (step_recv (rows X) K c ⟨4, by decide⟩ (by decide)) $$ H
  iintro H
  iapply (step_recv (rows X) K c ⟨5, by decide⟩ (by decide)) $$ H
  iintro H
  iapply (step_recv (rows X) K c ⟨6, by decide⟩ (by decide)) $$ H
  iintro H
  iapply (done_ret c)
  iapply Hk
  iexact H

/-- The rows received in the slots 7 to 9. -/
theorem part18_run (v2 : BitVec 32) {Q : PUnit → sProp 𝕄} :
    Rcv (rows X) K c 7 ⊢ iprop((Rcv (rows X) K c 10 -∗ Q ⟨⟩)
      -∗ WP c (k0_part18 xA harg0 oM harg1 wM harg2 sM harg3 rM harg4 cc0_scratch3 cc0_scratch4 cc0_scratch5 v2) Q) := by
  rw [k0_part18_eq_skeleton]
  unfold k0_part18_skel
  simp only [semSignalWord, semWaitWord, Prog.lift, Prog.bind_op, Prog.bind_ret, Prog.pure_eq_ret, wp_deviceId]
  iintro H Hk
  iapply (step_recv (rows X) K c ⟨7, by decide⟩ (by decide)) $$ H
  iintro H
  iapply (step_recv (rows X) K c ⟨8, by decide⟩ (by decide)) $$ H
  iintro H
  iapply (step_recv (rows X) K c ⟨9, by decide⟩ (by decide)) $$ H
  iintro H
  iapply (done_ret c)
  iapply Hk
  iexact H

/-- The rows received in the slots 10 to 12. -/
theorem part19_run (v2 : BitVec 32) {Q : PUnit → sProp 𝕄} :
    Rcv (rows X) K c 10 ⊢ iprop((Rcv (rows X) K c 13 -∗ Q ⟨⟩)
      -∗ WP c (k0_part19 xA harg0 oM harg1 wM harg2 sM harg3 rM harg4 cc0_scratch3 cc0_scratch4 cc0_scratch5 v2) Q) := by
  rw [k0_part19_eq_skeleton]
  unfold k0_part19_skel
  simp only [semSignalWord, semWaitWord, Prog.lift, Prog.bind_op, Prog.bind_ret, Prog.pure_eq_ret, wp_deviceId]
  iintro H Hk
  iapply (step_recv (rows X) K c ⟨10, by decide⟩ (by decide)) $$ H
  iintro H
  iapply (step_recv (rows X) K c ⟨11, by decide⟩ (by decide)) $$ H
  iintro H
  iapply (step_recv (rows X) K c ⟨12, by decide⟩ (by decide)) $$ H
  iintro H
  iapply (done_ret c)
  iapply Hk
  iexact H

/-- The sends' ends, before they are waited for. -/
def preWts : sProp 𝕄 := bigSep (since 1) (wtRes (F := F) c)
/-- All rows received. -/
def received : sProp 𝕄 := bigSep (since 1) (gotRes (rows X) c)

/-- All rows received, the device waits for its sends. -/
theorem recvs_end : iprop(Rcv (rows X) K c 16 ∗ preWts (F := F) c) ⊢ iprop(Wts (rows X) K c 1 ∗ received X c) := by
  unfold Rcv Wts preWts received
  iintro ⟨⟨HC, HF⟩, HW⟩
  isplitr [HF]
  · isplitl [HC]; · iexact HC
    iapply (front_start (wtRes (F := F) c) (doneRes (rows X) c)) $$ HW
  iapply (front_end (rcvRes (F := F) c) (gotRes (rows X) c)) $$ HF

/-- The last three rows received; the first send ended. -/
theorem part20_run (v2 : BitVec 32) {Q : PUnit → sProp 𝕄} :
    iprop(Rcv (rows X) K c 13 ∗ preWts (F := F) c) ⊢ iprop(((Wts (rows X) K c 2 ∗ received X c) -∗ Q ⟨⟩)
      -∗ WP c (k0_part20 xA harg0 oM harg1 wM harg2 sM harg3 rM harg4 cc0_scratch3 cc0_scratch4 cc0_scratch5 v2) Q) := by
  rw [k0_part20_eq_skeleton]
  unfold k0_part20_skel
  simp only [semSignalWord, semWaitWord, Prog.lift, Prog.bind_op, Prog.bind_ret, Prog.pure_eq_ret, wp_deviceId]
  iintro ⟨H, G⟩ Hk
  iapply (step_recv (rows X) K c ⟨13, by decide⟩ (by decide)) $$ H
  iintro H
  iapply (step_recv (rows X) K c ⟨14, by decide⟩ (by decide)) $$ H
  iintro H
  iapply (step_recv (rows X) K c ⟨15, by decide⟩ (by decide)) $$ H
  iintro H
  ihave H := (recvs_end X K c) $$ [H G]
  · isplitl [H] <;> iassumption
  icases H with ⟨H, G⟩
  iapply (step_wait (rows X) K c ⟨1, by decide⟩ (by decide)) $$ H
  iintro H
  iapply (done_ret c)
  iapply Hk
  isplitl [H] <;> iassumption

/-- The sends at the offsets 2 to 5 ended. -/
theorem part21_run (v2 : BitVec 32) {Q : PUnit → sProp 𝕄} :
    Wts (rows X) K c 2 ⊢ iprop((Wts (rows X) K c 6 -∗ Q ⟨⟩)
      -∗ WP c (k0_part21 xA harg0 oM harg1 wM harg2 sM harg3 rM harg4 cc0_scratch3 cc0_scratch4 cc0_scratch5 v2) Q) := by
  rw [k0_part21_eq_skeleton]
  unfold k0_part21_skel
  simp only [semSignalWord, semWaitWord, Prog.lift, Prog.bind_op, Prog.bind_ret, Prog.pure_eq_ret, wp_deviceId]
  iintro H Hk
  iapply (step_wait (rows X) K c ⟨2, by decide⟩ (by decide)) $$ H
  iintro H
  iapply (step_wait (rows X) K c ⟨3, by decide⟩ (by decide)) $$ H
  iintro H
  iapply (step_wait (rows X) K c ⟨4, by decide⟩ (by decide)) $$ H
  iintro H
  iapply (step_wait (rows X) K c ⟨5, by decide⟩ (by decide)) $$ H
  iintro H
  iapply (done_ret c)
  iapply Hk
  iexact H

/-- The sends at the offsets 6 to 9 ended. -/
theorem part22_run (v2 : BitVec 32) {Q : PUnit → sProp 𝕄} :
    Wts (rows X) K c 6 ⊢ iprop((Wts (rows X) K c 10 -∗ Q ⟨⟩)
      -∗ WP c (k0_part22 xA harg0 oM harg1 wM harg2 sM harg3 rM harg4 cc0_scratch3 cc0_scratch4 cc0_scratch5 v2) Q) := by
  rw [k0_part22_eq_skeleton]
  unfold k0_part22_skel
  simp only [semSignalWord, semWaitWord, Prog.lift, Prog.bind_op, Prog.bind_ret, Prog.pure_eq_ret, wp_deviceId]
  iintro H Hk
  iapply (step_wait (rows X) K c ⟨6, by decide⟩ (by decide)) $$ H
  iintro H
  iapply (step_wait (rows X) K c ⟨7, by decide⟩ (by decide)) $$ H
  iintro H
  iapply (step_wait (rows X) K c ⟨8, by decide⟩ (by decide)) $$ H
  iintro H
  iapply (step_wait (rows X) K c ⟨9, by decide⟩ (by decide)) $$ H
  iintro H
  iapply (done_ret c)
  iapply Hk
  iexact H

/-- The sends at the offsets 10 to 13 ended. -/
theorem part23_run (v2 : BitVec 32) {Q : PUnit → sProp 𝕄} :
    Wts (rows X) K c 10 ⊢ iprop((Wts (rows X) K c 14 -∗ Q ⟨⟩)
      -∗ WP c (k0_part23 xA harg0 oM harg1 wM harg2 sM harg3 rM harg4 cc0_scratch3 cc0_scratch4 cc0_scratch5 v2) Q) := by
  rw [k0_part23_eq_skeleton]
  unfold k0_part23_skel
  simp only [semSignalWord, semWaitWord, Prog.lift, Prog.bind_op, Prog.bind_ret, Prog.pure_eq_ret, wp_deviceId]
  iintro H Hk
  iapply (step_wait (rows X) K c ⟨10, by decide⟩ (by decide)) $$ H
  iintro H
  iapply (step_wait (rows X) K c ⟨11, by decide⟩ (by decide)) $$ H
  iintro H
  iapply (step_wait (rows X) K c ⟨12, by decide⟩ (by decide)) $$ H
  iintro H
  iapply (step_wait (rows X) K c ⟨13, by decide⟩ (by decide)) $$ H
  iintro H
  iapply (done_ret c)
  iapply Hk
  iexact H

end Cert.KernelIdeal.Exchange

end
-- ==== Proof.Passes.lean ====
/-
  The kernel's body, part by part: the two passes over the result, and the whole body.
-/
module

public import proofs.«01_k».proof.Proof.Parts
public import Idealize.ShloMosaic.Lib.Pipeline.Value

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2 ix3)

variable {F : FTy → Type} [FloatOps F]

local notation "𝕄" => MT nD τ sig Unit (Elt F) ℕ UU ℕ

variable (X : Dev nD → Arr F) (K : Dev nD × CI → ℕ) (c : Dev nD)
variable {harg0 : xA.IsWhole} {harg1 : oM.IsWhole} {harg2 : wM.IsWhole} {harg3 : sM.IsWhole} {harg4 : rM.IsWhole}

/-! ## The receive buffer once all rows are in -/

/-- A shape cast that drops the middle dimension of size 1 reads the same slab and column. -/
theorem drop_middle {α : Type} (v : S16x1x1024.Idx → α) (i : S16x1024.Idx) :
    shapeCast S16x1024 v shapeCasts_S16x1x1024_S16x1024 i = v (ix3 (i 0 : Fin 16) (0 : Fin 1) (i 1 : Fin 1024)) := by
  refine shapeCast_apply v _ i _ ?_
  rw [Shape.rowMajor_val_three, Shape.rowMajor_val_two]
  show ((i 0).val * 1 + 0) * 1024 + (i 1).val = (i 0).val * 1024 + (i 1).val
  omega

/-- What slot 0 holds does not matter to the sum of the rows received. -/
theorem sum_skips_slot (w : BitVec 32) (g g' : Vec F S16x1x1024 .f32) (h : ∀ i : S16x1x1024.Idx, (i 0).val ≠ 0 → g i = g' i) :
    k0_pay39 w g = k0_pay39 w g' := by
  unfold k0_pay39
  have e : ∀ m : IVec S16x1024 1, (∀ i : S16x1024.Idx, (i 0).val = 0 → m i = 0#1) → ∀ z : FVec F S16x1024 .f32,
      select m (shapeCast S16x1024 g shapeCasts_S16x1x1024_S16x1024) z = select m (shapeCast S16x1024 g' shapeCasts_S16x1x1024_S16x1024) z := by
    intro m hm z
    funext i
    show Scalar.select (m i) _ _ = Scalar.select (m i) _ _
    by_cases h0 : (i 0).val = 0
    · rw [hm i h0]; rfl
    · rw [drop_middle, drop_middle, h (ix3 (i 0 : Fin 16) (0 : Fin 1) (i 1 : Fin 1024)) h0]
  have hm : ∀ i : S16x1024.Idx, (i 0).val = 0 →
      andi (cmpi .sge (iota .tc S16x1024 32 [0] iota_S16x1024_d0_w32) (broadcast S16x1024 1#32))
        (cmpi .sle (iota .tc S16x1024 32 [0] iota_S16x1024_d0_w32) (broadcast S16x1024 w)) i = 0#1 := by
    intro i h0
    show (BitVec.ofBool ((1#32).sle (BitVec.ofNat 32 (0 * S16x1024.size 0 + (i 0).val)))) &&& _ = 0#1
    rw [h0, show BitVec.ofBool ((1#32).sle (BitVec.ofNat 32 (0 * S16x1024.size 0 + 0))) = 0#1 by decide]
    exact BitVec.zero_and
  exact congrArg (fun z : FVec F S16x1024 .f32 => shapeCast S1x1024
    (multiReduction .add [0] S1024 z 0x00000000#32 reduces_S16x1024_S1024 (.inl rfl) rfl) shapeCasts_S1024_S1x1024) (e _ hm _)

/-- The receive buffer holding `f` in slot 0 and the rows received elsewhere. -/
def filled (f : Buf (Elt F) (rLoc c)) : Buf (Elt F) (rLoc c) := fun (i : S16x1x1024.Idx) => if (i 0).val = 0 then f i else recvd (rows X) c i

theorem filled_sum (f : Buf (Elt F) (rLoc c)) : k0_pay39 (place c) (filled X c f) = before X c :=
  sum_skips_slot (place c) _ _ fun i h => if_neg h

/-- The slots joined to the buffer; what the waits for them returned beside. -/
theorem slots_join (f : Buf (Elt F) (rLoc c)) :
    iprop(slotPts c 0 f ∗ received X c) ⊢ iprop((rLoc c ↦{fullShare} filled X c f) ∗ bigSep (since 1) fun k => semVal (recvCell c k) 0) := by
  have h0 : slotPts c 0 f = slotPts c 0 (filled X c f) := by
    unfold slotPts
    exact pointsTo_congr fun i hi => (if_pos ((mem_slot 0 i).mp hi)).symm
  have h1 : bigSep (since 1) (fun k => slotPts c k (recvd (rows X) c)) = bigSep (since 1) (fun k => slotPts c k (filled X c f)) := by
    refine bigSep_congr fun k hk => ?_
    unfold slotPts
    refine pointsTo_congr fun i hi => (if_neg ?_).symm
    rw [(mem_slot k i).mp hi]
    have := mem_since.mp hk
    omega
  have e : received X c = iprop(bigSep (since 1) (fun k => slotPts c k (recvd (rows X) c)) ∗ bigSep (since 1) fun k => semVal (recvCell c k) 0) :=
    bigSep_sep' (since 1) (fun k => slotPts c k (recvd (rows X) c)) (fun k => semVal (recvCell c k) 0)
  rw [e, h0, h1, slots_split, univ_eq_insert, bigSep_ins zero_not_mem]
  iintro ⟨H0, H1, H2⟩
  isplitr [H2]
  · isplitl [H0] <;> iassumption
  iexact H2

/-- The pieces joined to the two buffers; the rest of what the sends leave alone. -/
theorem postSend_open : postSend X c ⊢ iprop((wLoc c ↦{fullShare} X c) ∗ (xLoc c ↦{fullShare} X c)
    ∗ (bigSep Finset.univ fun j => semVal ((c : Thread nD τ), .dma (inS j)) 0) ∗ semVal (barCell c) 0 ∗ rowPts (rows X) c 0) := by
  have e : bigSep Finset.univ (piece₂ X c) = iprop((bigSep Finset.univ (fun j => wLoc c ↦[chunkSet j]{fullShare} X c)
      ∗ bigSep Finset.univ (fun j => xLoc c ↦[chunkSet j]{fullShare} X c)) ∗ bigSep Finset.univ fun j => semVal ((c : Thread nD τ), .dma (inS j)) 0) :=
    (bigSep_sep' Finset.univ (copied X c) _).trans (congrArg (fun A : sProp 𝕄 => iprop(A ∗ _))
      (bigSep_sep' Finset.univ (fun j => wLoc c ↦[chunkSet j]{fullShare} X c) (fun j => xLoc c ↦[chunkSet j]{fullShare} X c)))
  have h := front_end (lo := 0) (K := 8) (piece₁ X c) (piece₂ X c)
  rw [since_zero, e, ← work_split, ← arg_split] at h
  unfold postSend
  iintro ⟨HF, HB, HR⟩
  ihave HF := h $$ HF
  icases HF with ⟨⟨H1, H2⟩, H3⟩
  isplitl [H1]; · iexact H1
  isplitl [H2]; · iexact H2
  isplitl [H3]; · iexact H3
  isplitl [HB] <;> iassumption

/-- After the first pass the second begins. -/
theorem passes_turn : One X c 16 ⊢ iprop((wLoc c ↦{fullShare} X c) ∗ Two X c 0) := by
  unfold One Two
  iintro ⟨Hw, HF⟩
  isplitl [Hw]; · iexact Hw
  iapply (front_start (outAt c (assemble (pass₁ X c))) (outAt c (assemble (pass₂ X c))))
  iapply (front_end (outRaw (F := F) c) (outAt c (assemble (pass₁ X c)))) $$ HF

/-! ## The parts -/

/-- The last two sends; the first pass over the blocks 0 and 1. -/
theorem part12_run (v2 : BitVec 32) {Q : (Σ' (v320 : FVec F S128x128 .bf16) (v321 : FVec F S1x1024 .f32) (v327 : FVec F S1x1024 .f32), FVec F S1x1024 .f32) → sProp 𝕄} :
    iprop(Snd (rows X) K c 14 ∗ One X c 0) ⊢ iprop(((Snd (rows X) K c 16 ∗ One X c 2) -∗ Q ⟨k0_pay6, (carry (X c) 0), (carry (X c) 1), (carry (X c) 2)⟩)
      -∗ WP c (k0_part12 xA harg0 oM harg1 wM harg2 sM harg3 rM harg4 cc0_scratch3 cc0_scratch4 cc0_scratch5 c v2) Q) := by
  rw [k0_part12_eq_skeleton]
  unfold k0_part12_skel
  simp only [semSignalWord, semWaitWord, Prog.lift, Prog.bind_op, Prog.bind_ret, Prog.pure_eq_ret, wp_deviceId]
  rw [show (carry (X c) 2) = k0_pay11 (block (X c) ⟨0, by decide⟩) (block (X c) ⟨1, by decide⟩) from rfl]
  rw [show (carry (X c) 1) = k0_pay9 (block (X c) ⟨0, by decide⟩) from rfl]
  rw [show (carry (X c) 0) = k0_pay7 from rfl]
  iintro ⟨H, O⟩ Hk
  iapply (step_send (rows X) K c ⟨14, by decide⟩ (by decide) _ (dev_peer c ⟨14, by decide⟩ _ _ (k0_dev29_eq c))) $$ H
  iintro H
  iapply (step_send (rows X) K c ⟨15, by decide⟩ (by decide) _ (dev_peer c ⟨15, by decide⟩ _ _ (k0_dev30_eq c))) $$ H
  iintro H
  iapply (step_first X c ⟨0, by decide⟩ k0_pay8 rfl) $$ O
  iintro O
  iapply (step_first X c ⟨1, by decide⟩ k0_pay10 rfl) $$ O
  iintro O
  iapply (done_ret c)
  iapply Hk
  isplitl [H] <;> iassumption

/-- The first pass over the blocks 2 to 6. -/
theorem part13_run {Q : (Σ' (v0 : FVec F S1x1024 .f32) (v1 : FVec F S1x1024 .f32) (v2 : FVec F S1x1024 .f32) (v3 : FVec F S1x1024 .f32), FVec F S1x1024 .f32) → sProp 𝕄} :
    One X c 2 ⊢ iprop((One X c 7 -∗ Q ⟨(carry (X c) 3), (carry (X c) 4), (carry (X c) 5), (carry (X c) 6), (carry (X c) 7)⟩)
      -∗ WP c (k0_part13 xA harg0 oM harg1 wM harg2 sM harg3 rM harg4 cc0_scratch3 cc0_scratch4 cc0_scratch5 k0_pay6 (carry (X c) 2)) Q) := by
  rw [k0_part13_eq_skeleton]
  unfold k0_part13_skel
  simp only [semSignalWord, semWaitWord, Prog.lift, Prog.bind_op, Prog.bind_ret, Prog.pure_eq_ret, wp_deviceId]
  rw [show (carry (X c) 7) = k0_pay21 k0_pay6 (carry (X c) 2) (block (X c) ⟨2, by decide⟩) (block (X c) ⟨3, by decide⟩) (block (X c) ⟨4, by decide⟩) (block (X c) ⟨5, by decide⟩) (block (X c) ⟨6, by decide⟩) from rfl]
  rw [show (carry (X c) 6) = k0_pay19 k0_pay6 (carry (X c) 2) (block (X c) ⟨2, by decide⟩) (block (X c) ⟨3, by decide⟩) (block (X c) ⟨4, by decide⟩) (block (X c) ⟨5, by decide⟩) from rfl]
  rw [show (carry (X c) 5) = k0_pay17 k0_pay6 (carry (X c) 2) (block (X c) ⟨2, by decide⟩) (block (X c) ⟨3, by decide⟩) (block (X c) ⟨4, by decide⟩) from rfl]
  rw [show (carry (X c) 4) = k0_pay15 k0_pay6 (carry (X c) 2) (block (X c) ⟨2, by decide⟩) (block (X c) ⟨3, by decide⟩) from rfl]
  rw [show (carry (X c) 3) = k0_pay13 k0_pay6 (carry (X c) 2) (block (X c) ⟨2, by decide⟩) from rfl]
  iintro O Hk
  iapply (step_first X c ⟨2, by decide⟩ (k0_pay12 k0_pay6) rfl) $$ O
  iintro O
  iapply (step_first X c ⟨3, by decide⟩ (k0_pay14 k0_pay6) rfl) $$ O
  iintro O
  iapply (step_first X c ⟨4, by decide⟩ (k0_pay16 k0_pay6) rfl) $$ O
  iintro O
  iapply (step_first X c ⟨5, by decide⟩ (k0_pay18 k0_pay6) rfl) $$ O
  iintro O
  iapply (step_first X c ⟨6, by decide⟩ (k0_pay20 k0_pay6) rfl) $$ O
  iintro O
  iapply (done_ret c)
  iapply Hk
  iexact O

/-- The first pass over the blocks 7 to 11. -/
theorem part14_run {Q : (Σ' (v0 : FVec F S1x1024 .f32) (v1 : FVec F S1x1024 .f32) (v2 : FVec F S1x1024 .f32) (v3 : FVec F S1x1024 .f32), FVec F S1x1024 .f32) → sProp 𝕄} :
    One X c 7 ⊢ iprop((One X c 12 -∗ Q ⟨(carry (X c) 8), (carry (X c) 9), (carry (X c) 10), (carry (X c) 11), (carry (X c) 12)⟩)
      -∗ WP c (k0_part14 xA harg0 oM harg1 wM harg2 sM harg3 rM harg4 cc0_scratch3 cc0_scratch4 cc0_scratch5 k0_pay6 (carry (X c) 7)) Q) := by
  rw [k0_part14_eq_skeleton]
  unfold k0_part14_skel
  simp only [semSignalWord, semWaitWord, Prog.lift, Prog.bind_op, Prog.bind_ret, Prog.pure_eq_ret, wp_deviceId]
  rw [show (carry (X c) 12) = k0_pay31 k0_pay6 (carry (X c) 7) (block (X c) ⟨7, by decide⟩) (block (X c) ⟨8, by decide⟩) (block (X c) ⟨9, by decide⟩) (block (X c) ⟨10, by decide⟩) (block (X c) ⟨11, by decide⟩) from rfl]
  rw [show (carry (X c) 11) = k0_pay29 k0_pay6 (carry (X c) 7) (block (X c) ⟨7, by decide⟩) (block (X c) ⟨8, by decide⟩) (block (X c) ⟨9, by decide⟩) (block (X c) ⟨10, by decide⟩) from rfl]
  rw [show (carry (X c) 10) = k0_pay27 k0_pay6 (carry (X c) 7) (block (X c) ⟨7, by decide⟩) (block (X c) ⟨8, by decide⟩) (block (X c) ⟨9, by decide⟩) from rfl]
  rw [show (carry (X c) 9) = k0_pay25 k0_pay6 (carry (X c) 7) (block (X c) ⟨7, by decide⟩) (block (X c) ⟨8, by decide⟩) from rfl]
  rw [show (carry (X c) 8) = k0_pay23 k0_pay6 (carry (X c) 7) (block (X c) ⟨7, by decide⟩) from rfl]
  iintro O Hk
  iapply (step_first X c ⟨7, by decide⟩ (k0_pay22 k0_pay6) rfl) $$ O
  iintro O
  iapply (step_first X c ⟨8, by decide⟩ (k0_pay24 k0_pay6) rfl) $$ O
  iintro O
  iapply (step_first X c ⟨9, by decide⟩ (k0_pay26 k0_pay6) rfl) $$ O
  iintro O
  iapply (step_first X c ⟨10, by decide⟩ (k0_pay28 k0_pay6) rfl) $$ O
  iintro O
  iapply (step_first X c ⟨11, by decide⟩ (k0_pay30 k0_pay6) rfl) $$ O
  iintro O
  iapply (done_ret c)
  iapply Hk
  iexact O

/-- The first pass over the blocks 12 to 15. -/
theorem part15_run (v2 : BitVec 32) {Q : (Σ' (v399 : FVec F S1x1024 .f32) (v405 : FVec F S1x1024 .f32), FVec F S1x1024 .f32) → sProp 𝕄} :
    One X c 12 ⊢ iprop((One X c 16 -∗ Q ⟨(carry (X c) 13), (carry (X c) 14), (carry (X c) 15)⟩)
      -∗ WP c (k0_part15 xA harg0 oM harg1 wM harg2 sM harg3 rM harg4 cc0_scratch3 cc0_scratch4 cc0_scratch5 v2 k0_pay6 (carry (X c) 12)) Q) := by
  rw [k0_part15_eq_skeleton]
  unfold k0_part15_skel
  simp only [semSignalWord, semWaitWord, Prog.lift, Prog.bind_op, Prog.bind_ret, Prog.pure_eq_ret, wp_deviceId]
  rw [show (carry (X c) 15) = k0_pay37 k0_pay6 (carry (X c) 12) (block (X c) ⟨12, by decide⟩) (block (X c) ⟨13, by decide⟩) (block (X c) ⟨14, by decide⟩) from rfl]
  rw [show (carry (X c) 14) = k0_pay35 k0_pay6 (carry (X c) 12) (block (X c) ⟨12, by decide⟩) (block (X c) ⟨13, by decide⟩) from rfl]
  rw [show (carry (X c) 13) = k0_pay33 k0_pay6 (carry (X c) 12) (block (X c) ⟨12, by decide⟩) from rfl]
  iintro O Hk
  iapply (step_first X c ⟨12, by decide⟩ (k0_pay32 k0_pay6) rfl) $$ O
  iintro O
  iapply (step_first X c ⟨13, by decide⟩ (k0_pay34 k0_pay6) rfl) $$ O
  iintro O
  iapply (step_first X c ⟨14, by decide⟩ (k0_pay36 k0_pay6) rfl) $$ O
  iintro O
  iapply (step_first X c ⟨15, by decide⟩ (k0_pay38 k0_pay6) rfl) $$ O
  iintro O
  iapply (done_ret c)
  iapply Hk
  iexact O

/-- The second pass over block 0, as the kernel computes it from the receive buffer. -/
theorem pass₂_zero (g : Vec F S16x1x1024 .f32) (hg : k0_pay39 (place c) g = before X c) :
    k0_pay40 (place c) (carry (X c) 0) g (scanned (X c) ⟨0, by decide⟩) = pass₂ X c ⟨0, by decide⟩ := by
  unfold pass₂
  rw [← hg]
  rfl

/-- The last two sends ended; the receive buffer read; the second pass over block 0. -/
theorem part24_run (g : Vec F S16x1x1024 .f32) (hg : k0_pay39 (place c) g = before X c) {Q : FVec F S1x1024 .f32 → sProp 𝕄} :
    iprop(Wts (rows X) K c 14 ∗ (rLoc c ↦{fullShare} g) ∗ Two X c 0) ⊢ iprop(((Wts (rows X) K c 16 ∗ (rLoc c ↦{fullShare} g) ∗ Two X c 1) -∗ Q (before X c))
      -∗ WP c (k0_part24 xA harg0 oM harg1 wM harg2 sM harg3 rM harg4 cc0_scratch3 cc0_scratch4 cc0_scratch5 (place c) (carry (X c) 0)) Q) := by
  rw [k0_part24_eq_skeleton]
  unfold k0_part24_skel
  simp only [semSignalWord, semWaitWord, Prog.lift, Prog.bind_op, Prog.bind_ret, Prog.pure_eq_ret, wp_deviceId]
  rw [← hg]
  have hr : View.readAt (Elt F) rM.view (Rect.unit ![0, 0, 0] ![16, 1, 1024] inb_S16x1x1024_S16x1x1024_0_0_0).toLoadRect g = g :=
    Memref.readAt_unit_zero (Elt F) cc0_scratch2 (by decide) inb_S16x1x1024_S16x1x1024_0_0_0 g
  iintro ⟨H, R, O⟩ Hk
  iapply (step_wait (rows X) K c ⟨14, by decide⟩ (by decide)) $$ H
  iintro H
  iapply (step_wait (rows X) K c ⟨15, by decide⟩ (by decide)) $$ H
  iintro H
  iapply (wp_load 𝒱₀ (c : Thread nD τ) none Set.univ (m := rM) (Finset.subset_univ _)) $$ R
  iintro R
  rw [hr]
  iapply (step_second X c ⟨0, by decide⟩ (k0_pay40 (place c) (carry (X c) 0) g) (pass₂_zero X c g hg)) $$ O
  iintro O
  iapply (done_ret c)
  iapply Hk
  isplitl [H]; · iexact H
  isplitl [R] <;> iassumption

/-- The second pass over the blocks 1 to 5; block 6 read. -/
theorem part25_run {Q : (Σ' (v690 : FVec F S128x1024 .f32), FVec F S128x1024 .f32) → sProp 𝕄} :
    Two X c 1 ⊢ iprop((Two X c 6 -∗ Q ⟨k0_pay46 (scanned (X c) ⟨6, by decide⟩), k0_pay47 (carry (X c) 6) (before X c)⟩)
      -∗ WP c (k0_part25 xA harg0 oM harg1 wM harg2 sM harg3 rM harg4 cc0_scratch3 cc0_scratch4 cc0_scratch5 (carry (X c) 1) (carry (X c) 2) (carry (X c) 3) (carry (X c) 4) (carry (X c) 5) (carry (X c) 6) (before X c)) Q) := by
  rw [k0_part25_eq_skeleton]
  unfold k0_part25_skel
  simp only [semSignalWord, semWaitWord, Prog.lift, Prog.bind_op, Prog.bind_ret, Prog.pure_eq_ret, wp_deviceId]
  iintro O Hk
  iapply (step_second X c ⟨1, by decide⟩ (k0_pay41 (carry (X c) 1) (before X c)) rfl) $$ O
  iintro O
  iapply (step_second X c ⟨2, by decide⟩ (k0_pay42 (carry (X c) 2) (before X c)) rfl) $$ O
  iintro O
  iapply (step_second X c ⟨3, by decide⟩ (k0_pay43 (carry (X c) 3) (before X c)) rfl) $$ O
  iintro O
  iapply (step_second X c ⟨4, by decide⟩ (k0_pay44 (carry (X c) 4) (before X c)) rfl) $$ O
  iintro O
  iapply (step_second X c ⟨5, by decide⟩ (k0_pay45 (carry (X c) 5) (before X c)) rfl) $$ O
  iintro O
  iapply (step_middle X c ⟨6, by decide⟩) $$ O
  iintro O
  iapply (done_ret c)
  iapply Hk
  iexact O

/-- The second pass over the blocks 6 to 11. -/
theorem part26_run {Q : PUnit → sProp 𝕄} :
    Two X c 6 ⊢ iprop((Two X c 12 -∗ Q ⟨⟩)
      -∗ WP c (k0_part26 xA harg0 oM harg1 wM harg2 sM harg3 rM harg4 cc0_scratch3 cc0_scratch4 cc0_scratch5 (carry (X c) 7) (carry (X c) 8) (carry (X c) 9) (carry (X c) 10) (carry (X c) 11) (before X c) (k0_pay46 (scanned (X c) ⟨6, by decide⟩)) (k0_pay47 (carry (X c) 6) (before X c))) Q) := by
  rw [k0_part26_eq_skeleton]
  unfold k0_part26_skel
  simp only [semSignalWord, semWaitWord, Prog.lift, Prog.bind_op, Prog.bind_ret, Prog.pure_eq_ret, wp_deviceId]
  iintro O Hk
  iapply (step_rewrite X c ⟨6, by decide⟩ _ rfl) $$ O
  iintro O
  iapply (step_second X c ⟨7, by decide⟩ (k0_pay49 (carry (X c) 7) (before X c)) rfl) $$ O
  iintro O
  iapply (step_second X c ⟨8, by decide⟩ (k0_pay50 (carry (X c) 8) (before X c)) rfl) $$ O
  iintro O
  iapply (step_second X c ⟨9, by decide⟩ (k0_pay51 (carry (X c) 9) (before X c)) rfl) $$ O
  iintro O
  iapply (step_second X c ⟨10, by decide⟩ (k0_pay52 (carry (X c) 10) (before X c)) rfl) $$ O
  iintro O
  iapply (step_second X c ⟨11, by decide⟩ (k0_pay53 (carry (X c) 11) (before X c)) rfl) $$ O
  iintro O
  iapply (done_ret c)
  iapply Hk
  iexact O

end Cert.KernelIdeal.Exchange

end
-- ==== Proof.Body.lean ====
/-
  The whole body of the kernel, run from what a device holds at its start to what it holds at its end.
-/
module

public import proofs.«01_k».proof.Proof.Passes

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2 ix3)

variable {F : FTy → Type} [FloatOps F]

local notation "𝕄" => MT nD τ sig Unit (Elt F) ℕ UU ℕ

variable (X : Dev nD → Arr F) (K : Dev nD × CI → ℕ) (c : Dev nD)
variable {harg0 : xA.IsWhole} {harg1 : oM.IsWhole} {harg2 : wM.IsWhole} {harg3 : sM.IsWhole} {harg4 : rM.IsWhole}

/-- A program continued: its result is what the rest starts from. -/
theorem run_bind {α β : Type} (p : Prog (TpuEff nD τ sig (Elt F) Λ₀ .tc) α) (k : α → Prog (TpuEff nD τ sig (Elt F) Λ₀ .tc) β) {Q : β → sProp 𝕄} :
    WP c p (fun a => WP c (k a) Q) ⊢ WP c (p >>= k) Q := by
  rw [show (p >>= k) = p.bind k from rfl]
  exact Entails.of_eq (wp_bind frame (wpE (defs₀ (F := F)) 𝒱₀ (c : Thread nD τ) none) Set.univ p k Q).symm

/-- What a device holds when the body begins, but the cells' records and what it owes. -/
def atStart : sProp 𝕄 :=
  iprop(bigSep (since 1) (sigRes (F := F) c) ∗ bigSep Finset.univ (piece₀ X c) ∗ (∃ f : Buf (Elt F) (sLoc c), sLoc c ↦{fullShare} f) ∗ preSend (F := F) c
    ∗ bigSep Finset.univ (outRaw (F := F) c) ∗ bigSep (since 1) (rcvRes (F := F) c) ∗ (bigSep (since 1) fun k => atPos ER (sendCell c k) 0 ∅ 0)
    ∗ ∃ f : Buf (Elt F) (rLoc c), slotPts c 0 f)

/-- What it holds when the body has ended. -/
def atEnd : sProp 𝕄 :=
  iprop(bigSep (since 1) (doneRes (rows X) c) ∗ (bigSep (since 1) fun k => semVal (recvCell c k) 0)
    ∗ (bigSep Finset.univ fun j => semVal ((c : Thread nD τ), .dma (inS j)) 0) ∗ semVal (barCell c) 0 ∗ rowPts (rows X) c 0
    ∗ (∃ f : Buf (Elt F) (rLoc c), rLoc c ↦{fullShare} f) ∗ (wLoc c ↦{fullShare} X c) ∗ (xLoc c ↦{fullShare} X c)
    ∗ bigSep Finset.univ (outAt c (result X c)))

/-- All signals sent and all copies issued. -/
theorem copies_end : iprop(Sig (rows X) K c 16 ∗ Front 0 (piece₀ X c) (piece₁ X c) 8) ⊢ Ins X (rows X) K c 0 := by
  unfold Sig Ins
  iintro ⟨⟨HC, -⟩, HF⟩
  isplitl [HC]; · iexact HC
  iapply (front_start (piece₁ X c) (piece₂ X c))
  iapply (front_end (piece₀ X c) (piece₁ X c)) $$ HF

/-- All sends issued, the device waits for the rows it receives. -/
theorem sends_end : iprop(Snd (rows X) K c 16 ∗ bigSep (since 1) (rcvRes (F := F) c) ∗ bigSep (since 1) fun k => atPos ER (sendCell c k) 0 ∅ 0)
    ⊢ iprop(Rcv (rows X) K c 1 ∗ preWts (F := F) c) := by
  have e : preWts (F := F) c = iprop(bigSep (since 1) (sntRes (F := F) c) ∗ bigSep (since 1) fun k => atPos ER (sendCell c k) 0 ∅ 0) :=
    bigSep_sep' (since 1) (sntRes (F := F) c) _
  rw [e]
  unfold Snd Rcv
  rw [recvDue_last]
  iintro ⟨⟨HC, HF⟩, HR, HA⟩
  isplitl [HC HR]
  · isplitl [HC]; · iexact HC
    iapply (front_start (rcvRes (F := F) c) (gotRes (rows X) c)) $$ HR
  isplitl [HF]
  · iapply (front_end (sndRes (rows X) c) (sntRes (F := F) c)) $$ HF
  iexact HA

/-- The body but the last block's second pass. -/
theorem part27_run {Q : (Σ' (v411 : FVec F S1x1024 .f32), FVec F S1x1024 .f32) → sProp 𝕄} :
    iprop(Ctx (rows X) K c (recvDue c 1 + barDue c 1) ∗ atStart X c)
      ⊢ iprop(((Ctx (rows X) K c 0 ∗ (Two X c 16 -∗ atEnd X c) ∗ Two X c 15) -∗ Q ⟨carry (X c) 15, before X c⟩)
        -∗ WP c (k0_part27 xA harg0 oM harg1 wM harg2 sM harg3 rM harg4 cc0_scratch3 cc0_scratch4 cc0_scratch5) Q) := by
  have hstart : bigSep Finset.univ (piece₀ X c) ⊢ Front 0 (piece₀ X c) (piece₁ X c) 0 := by
    rw [← since_zero]; exact front_start _ _
  have hone : iprop((wLoc c ↦{fullShare} X c) ∗ bigSep Finset.univ (outRaw (F := F) c)) ⊢ One X c 0 := by
    unfold One
    rw [← since_zero]
    iintro ⟨H1, H2⟩
    isplitl [H1]; · iexact H1
    iapply (front_start (outRaw (F := F) c) (outAt c (assemble (pass₁ X c)))) $$ H2
  have hsig : iprop(Ctx (rows X) K c (recvDue c 1 + barDue c 1) ∗ bigSep (since 1) (sigRes (F := F) c)) ⊢ Sig (rows X) K c 1 := by
    unfold Sig
    iintro ⟨H1, H2⟩
    isplitl [H1]; · iexact H1
    iapply (front_start (sigRes (F := F) c) (fun _ => iprop(emp))) $$ H2
  have hend : Two X c 16 ⊢ bigSep Finset.univ (outAt c (result X c)) := by
    unfold Two
    rw [← since_zero]
    exact front_end _ _
  rw [k0_part27_eq_skeleton]
  unfold k0_part27_skel atStart
  iintro ⟨HC, HS, HP, Hrow, Hpre, Hout, Hrcv, Hsnd, ⟨%f0, Hslot⟩⟩ Hk
  ihave H := hsig $$ [HC HS]
  · isplitl [HC] <;> iassumption
  ihave G := hstart $$ HP
  iapply (run_bind c)
  iapply (part1_run X K c) $$ H
  iintro %v24 H
  iapply (run_bind c)
  iapply (part2_run X K c _ _ _) $$ H
  iintro %v48 H
  iapply (run_bind c)
  iapply (part3_run X K c _ _ _) $$ [H G]
  · isplitl [H] <;> iassumption
  iintro ⟨H, G⟩
  iapply (run_bind c)
  iapply (part4_run X c) $$ G
  iintro G
  ihave H := (copies_end X K c) $$ [H G]
  · isplitl [H] <;> iassumption
  iapply (run_bind c)
  iapply (part5_run X K c _) $$ H
  iintro H
  iapply (run_bind c)
  iapply (part6_run X K c _) $$ H
  iintro H
  iapply (run_bind c)
  iapply (part7_run X K c _ _ rfl) $$ [H Hrow Hpre]
  · isplitl [H]; · iexact H
    isplitl [Hrow] <;> iassumption
  iintro ⟨H, G⟩
  ihave G := (postSend_open X c) $$ G
  icases G with ⟨Hw, Hx, Hins, Hbar, Hrow⟩
  iapply (run_bind c)
  iapply (part8_run X K c _) $$ H
  iintro H
  iapply (run_bind c)
  iapply (part9_run X K c _) $$ H
  iintro H
  iapply (run_bind c)
  iapply (part10_run X K c _) $$ H
  iintro H
  iapply (run_bind c)
  iapply (part11_run X K c _) $$ H
  iintro H
  ihave O := hone $$ [Hw Hout]
  · isplitl [Hw] <;> iassumption
  iapply (run_bind c)
  iapply (part12_run X K c _) $$ [H O]
  · isplitl [H] <;> iassumption
  iintro ⟨H, O⟩
  iapply (run_bind c)
  iapply (part13_run X c) $$ O
  iintro O
  iapply (run_bind c)
  iapply (part14_run X c) $$ O
  iintro O
  iapply (run_bind c)
  iapply (part15_run X c _) $$ O
  iintro O
  ihave O := (passes_turn X c) $$ O
  icases O with ⟨Hw, O⟩
  ihave H := (sends_end X K c) $$ [H Hrcv Hsnd]
  · isplitl [H]; · iexact H
    isplitl [Hrcv] <;> iassumption
  icases H with ⟨H, Hpw⟩
  iapply (run_bind c)
  iapply (part16_run X K c _) $$ H
  iintro H
  iapply (run_bind c)
  iapply (part17_run X K c _) $$ H
  iintro H
  iapply (run_bind c)
  iapply (part18_run X K c _) $$ H
  iintro H
  iapply (run_bind c)
  iapply (part19_run X K c _) $$ H
  iintro H
  iapply (run_bind c)
  iapply (part20_run X K c _) $$ [H Hpw]
  · isplitl [H] <;> iassumption
  iintro ⟨H, G⟩
  ihave G := (slots_join X c f0) $$ [Hslot G]
  · isplitl [Hslot] <;> iassumption
  icases G with ⟨R, Hrs⟩
  iapply (run_bind c)
  iapply (part21_run X K c _) $$ H
  iintro H
  iapply (run_bind c)
  iapply (part22_run X K c _) $$ H
  iintro H
  iapply (run_bind c)
  iapply (part23_run X K c _) $$ H
  iintro H
  iapply (run_bind c)
  iapply (part24_run X K c (filled X c f0) (filled_sum X c f0)) $$ [H R O]
  · isplitl [H]; · iexact H
    isplitl [R] <;> iassumption
  iintro ⟨H, R, O⟩
  iapply (run_bind c)
  iapply (part25_run X c) $$ O
  iintro O
  iapply (run_bind c)
  iapply (part26_run X c) $$ O
  iintro O
  simp only [Prog.lift, Prog.bind_op, Prog.bind_ret, Prog.pure_eq_ret]
  iapply (step_second X c ⟨12, by decide⟩ (k0_pay54 (carry (X c) 12) (before X c)) rfl) $$ O
  iintro O
  iapply (step_second X c ⟨13, by decide⟩ (k0_pay55 (carry (X c) 13) (before X c)) rfl) $$ O
  iintro O
  iapply (step_second X c ⟨14, by decide⟩ (k0_pay56 (carry (X c) 14) (before X c)) rfl) $$ O
  iintro O
  iapply (done_ret c)
  iapply Hk
  unfold Wts
  icases H with ⟨HC, HF⟩
  ihave HF := (front_end (wtRes (F := F) c) (doneRes (rows X) c)) $$ HF
  isplitl [HC]; · iexact HC
  isplitr [O]
  · iintro O
    ihave O := hend $$ O
    unfold atEnd
    isplitl [HF]; · iexact HF
    isplitl [Hrs]; · iexact Hrs
    isplitl [Hins]; · iexact Hins
    isplitl [Hbar]; · iexact Hbar
    isplitl [Hrow]; · iexact Hrow
    isplitl [R]; · iexists _; iexact R
    isplitl [Hw]; · iexact Hw
    isplitl [Hx]; · iexact Hx
    iexact O
  iexact O

/-- The whole body. -/
theorem body_run {Q : PUnit → sProp 𝕄} :
    iprop(Ctx (rows X) K c (recvDue c 1 + barDue c 1) ∗ atStart X c)
      ⊢ iprop(((Ctx (rows X) K c 0 ∗ atEnd X c) -∗ Q ⟨⟩)
        -∗ WP c (cc0_body xA harg0 oM harg1 wM harg2 sM harg3 rM harg4 cc0_scratch3 cc0_scratch4 cc0_scratch5) Q) := by
  rw [cc0_body_eq_skeleton]
  unfold cc0_body_skel
  iintro H Hk
  iapply (run_bind c)
  iapply (part27_run X K c) $$ H
  iintro ⟨HC, HE, O⟩
  dsimp only
  simp only [Prog.lift, Prog.bind_op, Prog.bind_ret, Prog.pure_eq_ret]
  iapply (step_second X c ⟨15, by decide⟩ (k0_pay1 (carry (X c) 15) (before X c)) rfl) $$ O
  iintro O
  iapply (done_ret c)
  iapply Hk
  isplitl [HC]; · iexact HC
  iapply HE
  iexact O

end Cert.KernelIdeal.Exchange

end
-- ==== Proof.Deal.lean ====
/-
  What the launch deals to the devices: the cells' invariants, the rights to pay, the credit for what others owe.
-/
module

public import proofs.«01_k».proof.Proof.Body
public import proofs.«01_k».proof.Proof.Gen.KernelIdeal.Launch
public import proofs.«01_k».proof.Proof.Gen.KernelIdeal.Frame

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2 ix3)

variable {F : FTy → Type} [FloatOps F]

local notation "𝕄" => MT nD τ sig Unit (Elt F) ℕ UU ℕ

variable (X : Dev nD → Arr F)

/-! ## The cells and the rights, counted out -/

theorem csem_injective : Function.Injective csem := by
  have hd : ∀ {q q' : DmaSem sig}, (SemLoc.dma q : SemLoc sig) = .dma q' → q.val = q'.val := by
    intro q q' h; injection h with h; exact congrArg Fin.val h
  rintro (_ | ⟨_ | _, k⟩) (_ | ⟨_ | _, k'⟩) h
  · rfl
  · cases h
  · cases h
  · cases h
  · have := hd h; rw [sendS_val, sendS_val] at this
    rw [show k = k' from Fin.ext (by omega)]
  · have := hd h; rw [sendS_val, recvS_val] at this; have := k.isLt; omega
  · cases h
  · have := hd h; rw [sendS_val, recvS_val] at this; have := k'.isLt; omega
  · have := hd h; rw [recvS_val, recvS_val] at this
    rw [show k = k' from Fin.ext (by omega)]

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The exchange's cells. -/
def exCells : Finset (GSem nD τ sig) := Finset.univ.map ⟨kcell, kcell_injective⟩

/-- The rights to pay one device's cells: its barrier's for each offset, and one for each send and each receive semaphore. -/
abbrev rightOf (x : Dev nD × (Fin 16 ⊕ (Bool × Fin 16))) : GSem nD τ sig × ℕ × Fin 16 := match x.2 with
  | .inl d => (barCell x.1, 0, d)
  | .inr i => (kcell (x.1, some i), 0, 0)

theorem rightOf_injective : Function.Injective rightOf := by
  rintro ⟨c, i⟩ ⟨c', i'⟩ h
  have h1 : c = c' := by
    have := congrArg (fun x : GSem nD τ sig × ℕ × Fin 16 => x.1.1.1) h
    rcases i with d | i <;> rcases i' with d' | i' <;> exact this
  subst h1
  have hc : ∀ i i' : CI, kcell (c, i) = kcell (c, i') → i = i' := fun i i' h => (Prod.mk.inj (kcell_injective h)).2
  have h2 := congrArg Prod.fst h
  rcases i with d | i <;> rcases i' with d' | i'
  · rw [show d = d' from congrArg (fun x : GSem nD τ sig × ℕ × Fin 16 => x.2.2) h]
  · exact absurd (hc none (some i') h2) (by simp)
  · exact absurd (hc (some i) none h2) (by simp)
  · rw [Option.some.inj (hc (some i) (some i') h2)]

/-- All rights to pay. -/
def exRights : Finset (GSem nD τ sig × ℕ × Fin 16) := Finset.univ.map ⟨rightOf, rightOf_injective⟩

/-- What the launch starts from: the cells of the staging buffers, the exchange's cells and rights. -/
def u₀ : UU := (initOf (Pipeline.cells cfgs cellOf_inj) (Pipeline.launchToks cfgs cellOf_inj), (initOf exCells exRights, 1))

/-- A family over the two kinds of semaphore and the offsets. -/
theorem bigSep_kinds (Φ : Bool × Fin 16 → sProp 𝕄) :
    bigSep Finset.univ Φ = iprop((bigSep Finset.univ fun k => Φ (false, k)) ∗ bigSep Finset.univ fun k => Φ (true, k)) := by
  rw [bigSep_univ_prod, bigSep_univ_eq_bigSepL [false, true] (by decide) (by decide)]; rfl

/-- A family over a device's cells. -/
theorem bigSep_cells (Φ : CI → sProp 𝕄) :
    bigSep Finset.univ Φ = iprop(Φ none ∗ (bigSep Finset.univ fun k => Φ (some (false, k))) ∗ bigSep Finset.univ fun k => Φ (some (true, k))) := by
  rw [bigSep_univ_at Φ none, show (Finset.univ : Finset CI).erase none = Finset.univ.image some by decide,
    bigSep_image_of_injOn (fun _ _ _ _ h => Option.some.inj h), bigSep_kinds]

/-- The rights to pay device `c`'s own cells. -/
def rights (c : Dev nD) : sProp 𝕄 :=
  iprop((bigSep Finset.univ fun d => dutyTok ER (barCell c) 0 d) ∗ (bigSep Finset.univ fun k => dutyTok ER (sendCell c k) 0 0)
    ∗ bigSep Finset.univ fun k => dutyTok ER (recvCell c k) 0 0)
/-- The rights device `c` pays with. -/
def pays (c : Dev nD) : sProp 𝕄 :=
  iprop((bigSep Finset.univ fun k => dutyTok ER (barCell (peer c k)) 0 (opp k)) ∗ (bigSep Finset.univ fun k => dutyTok ER (sendCell c k) 0 0)
    ∗ bigSep Finset.univ fun k => dutyTok ER (recvCell (peer c k) k) 0 0)

/-- What each device holds for each offset, handed to the device that many places before. -/
theorem around (D : Dev nD → Fin 16 → sProp 𝕄) :
    (bigSep Finset.univ fun c => bigSep Finset.univ fun k => D c k) = bigSep Finset.univ fun c => bigSep Finset.univ fun k => D (peer c k) k := by
  rw [bigSep_univ_comm, bigSep_univ_comm (fun (c : Dev nD) (k : Fin 16) => D (peer c k) k)]
  exact bigSep_congr fun k _ => bigSep_univ_equiv (turn k) fun c => D c k

theorem rights_around : bigSep Finset.univ (rights (F := F)) ⊢ bigSep Finset.univ (pays (F := F)) := by
  have e : (bigSep Finset.univ fun c : Dev nD => bigSep Finset.univ fun d => (dutyTok ER (barCell c) 0 d : sProp 𝕄))
      = bigSep Finset.univ fun c : Dev nD => bigSep Finset.univ fun k => dutyTok ER (barCell (peer c k)) 0 (opp k) := by
    rw [← around fun c k => (dutyTok ER (barCell c) 0 (opp k) : sProp 𝕄)]
    exact bigSep_congr fun c _ => bigSep_univ_equiv oppE fun k => (dutyTok ER (barCell c) 0 k : sProp 𝕄)
  have h1 : bigSep Finset.univ (rights (F := F)) = iprop(_ ∗ _) := bigSep_sep' Finset.univ _ _
  have h2 : bigSep Finset.univ (pays (F := F)) = iprop(_ ∗ _) := bigSep_sep' Finset.univ _ _
  rw [h1, h2, bigSep_sep', bigSep_sep', e, around fun c k => (dutyTok ER (recvCell c k) 0 0 : sProp 𝕄)]

/-- What the launch element deals device `c`. -/
def dealt (c : Dev nD) : sProp 𝕄 :=
  iprop((bigSep Finset.univ fun i : CI => roundState ER (sched (rows X)) (kcell (c, i)) 0)
    ∗ (bigSep Finset.univ fun i : CI => atPos ER (kcell (c, i)) 0 ∅ 0) ∗ (bigSep Finset.univ fun i : CI => reached ER (kcell (c, i)) 0) ∗ rights c)

theorem deal : BI.own (ER (initOf exCells exRights)) ⊢ (|==> bigSep Finset.univ (dealt X) : sProp 𝕄) := by
  have hX (Φ : GSem nD τ sig → sProp 𝕄) : bigSep exCells Φ = bigSep Finset.univ fun c : Dev nD => bigSep Finset.univ fun i : CI => Φ (kcell (c, i)) := by
    unfold exCells; rw [bigSep_map, bigSep_univ_prod]; rfl
  have hT : bigSep exRights (fun x => (dutyTok ER x.1 x.2.1 x.2.2 : sProp 𝕄)) = bigSep Finset.univ (rights (F := F)) := by
    unfold exRights; rw [bigSep_map, bigSep_univ_prod]
    exact bigSep_congr fun c _ => by rw [bigSep_univ_sum, bigSep_kinds]; rfl
  have hD : bigSep Finset.univ (dealt X) = iprop((bigSep Finset.univ fun c : Dev nD => bigSep Finset.univ fun i : CI => roundState ER (sched (rows X)) (kcell (c, i)) 0)
      ∗ (bigSep Finset.univ fun c : Dev nD => bigSep Finset.univ fun i : CI => atPos ER (kcell (c, i)) 0 ∅ 0)
      ∗ (bigSep Finset.univ fun c : Dev nD => bigSep Finset.univ fun i : CI => reached ER (kcell (c, i)) 0) ∗ bigSep Finset.univ (rights (F := F))) := by
    refine (bigSep_sep' Finset.univ _ _).trans ?_
    rw [bigSep_sep', bigSep_sep']
  rw [hD]
  iintro HX
  imod (Rounds.fund ER (sched (rows X)) exCells exRights) $$ HX with ⟨Hst, Hr, Hat, Htok⟩
  imodintro
  ihave Hst := (Entails.of_eq (hX fun g => roundState ER (sched (rows X)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat]; · iexact Hat
  isplitl [Hr] <;> iassumption

/-! ## The semaphores -/

/-- The kernel's own semaphores: 8 for the pieces copied in, 16 to send and 16 to receive. -/
abbrev osem : Fin 8 ⊕ (Bool × Fin 16) → SemLoc sig
  | .inl j => .dma (inS j)
  | .inr (false, k) => .dma (sendS k)
  | .inr (true, k) => .dma (recvS k)

theorem ownSemFacts : Pipeline.OwnSemFacts cfg0.spec osem := by decide

theorem ownSems_eq (c : Dev nD) : (Pipeline.ownSems0 (Ix := Unit) (Name := ℕ) (U := UU) (Lvl := ℕ) (Val := Elt F) (τ := τ) osem c : sProp 𝕄)
    = iprop((bigSep Finset.univ fun j => semVal ((c : Thread nD τ), .dma (inS j)) 0)
      ∗ (bigSep Finset.univ fun k => semVal (sendCell c k) 0) ∗ bigSep Finset.univ fun k => semVal (recvCell c k) 0) := by
  unfold Pipeline.ownSems0
  rw [bigSep_univ_sum, bigSep_kinds]
  rfl

theorem unscopedSems_eq (c : Dev nD) : (unscopedSems0 c : sProp 𝕄) = semVal (barCell c) 0 := by
  unfold unscopedSems0; rw [bigSep_eq_bigSepL_of_eq [SemLoc.reg barS] (by decide) (by decide)]; rfl

/-! ## The invariants -/

/-- What device `c` starts with, the records beside. -/
def begun (c : Dev nD) : sProp 𝕄 :=
  iprop((bigSep Finset.univ fun j => semVal ((c : Thread nD τ), .dma (inS j)) 0) ∗ (bigSep Finset.univ fun i : CI => atPos ER (kcell (c, i)) 0 ∅ 0) ∗ pays c)
/-- The same with the records. -/
def given (c : Dev nD) : sProp 𝕄 := iprop(∃ K, records (rows X) K ∗ begun c)

theorem invariants (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun i : CI => iprop(∃ κ : ℕ, cellInv ER (sched (rows X)) κ (kcell (c, i))))
          ∗ (bigSep Finset.univ fun i : CI => reached ER (kcell (c, i)) 0)
          ∗ ((bigSep Finset.univ fun j => semVal ((c : Thread nD τ), .dma (inS j)) 0) ∗ (bigSep Finset.univ fun i : CI => atPos ER (kcell (c, i)) 0 ∅ 0)) ∗ rights c) := by
  have hv : (bigSep Finset.univ fun i : CI => (semVal (kcell (c, i)) 0 : sProp 𝕄)) = iprop(semVal (barCell c) 0
      ∗ (bigSep Finset.univ fun k => semVal (sendCell c k) 0) ∗ bigSep Finset.univ fun k => semVal (recvCell c k) 0) := bigSep_cells _
  have hi : iprop((bigSep Finset.univ fun i : CI => semVal (kcell (c, i)) 0) ∗ bigSep Finset.univ fun i : CI => roundState ER (sched (rows X)) (kcell (c, i)) 0)
      ⊢ (|={Set.univ}=> bigSep Finset.univ fun i : CI => iprop(∃ κ : ℕ, cellInv ER (sched (rows X)) κ (kcell (c, i))) : sProp 𝕄) := by
    rw [← bigSep_sep']
    exact (bigSep_mono fun i _ => (Rounds.body_intro ER (sched (rows X)) (kcell (c, i))).trans inv_alloc).trans (bigSep_fupd _ _)
  rw [ownSems_eq, unscopedSems_eq]
  unfold dealt
  iintro ⟨⟨Hin, Hs, Hr⟩, Hb, Hst, Hat, Hre, Htok⟩
  imod hi $$ [Hs Hr Hb Hst] with Hinv
  · isplitr [Hst]
    · iapply (Entails.of_eq hv.symm)
      isplitl [Hb]; · iexact Hb
      isplitl [Hs] <;> iassumption
    iexact Hst
  imodintro
  isplitl [Hinv]; · iexact Hinv
  isplitl [Hre]; · iexact Hre
  isplitl [Hin Hat]
  · isplitl [Hin] <;> iassumption
  iexact Htok

/-- A persistent fact handed to every member of a family. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun i : CI => iprop(∃ κ : ℕ, cellInv ER (sched (rows X)) κ (kcell (c, i))))
          ∗ (bigSep Finset.univ fun i : CI => reached ER (kcell (c, i)) 0)
          ∗ ((bigSep Finset.univ fun j => semVal ((c : Thread nD τ), .dma (inS j)) 0) ∗ (bigSep Finset.univ fun i : CI => atPos ER (kcell (c, i)) 0 ∅ 0)) ∗ rights c) : sProp 𝕄)
      ⊢ bigSep Finset.univ (given X) := by
  rw [bigSep_sep', bigSep_sep', bigSep_sep', ← bigSep_univ_prod (fun x : Dev nD × CI => iprop(∃ κ : ℕ, cellInv ER (sched (rows X)) κ (kcell x))),
    ← bigSep_univ_prod (fun x : Dev nD × CI => (reached ER (kcell x) 0 : sProp 𝕄))]
  iintro ⟨HI, #HR, Hat, Htok⟩
  ihave HK := (BI.bigSep_exists_pi Finset.univ (fun (x : Dev nD × CI) (κ : ℕ) => (cellInv ER (sched (rows X)) κ (kcell x) : sProp 𝕄))) $$ HI
  icases HK with ⟨%K, #HI⟩
  ihave Htok := (rights_around (F := F)) $$ Htok
  have hrec : iprop((bigSep Finset.univ fun x : Dev nD × CI => (cellInv ER (sched (rows X)) (K x) (kcell x) : sProp 𝕄))
      ∗ bigSep Finset.univ fun x : Dev nD × CI => (reached ER (kcell x) 0 : sProp 𝕄)) ⊢ records (rows X) K :=
    Entails.of_eq (bigSep_sep' Finset.univ _ _).symm
  iapply (to_all (R := records (rows X) K) (Φ := begun (F := F)) fun c _ => by
    unfold given
    iintro H
    iexists K
    iexact H)
  isplitr
  · iapply hrec
    isplitl; · iexact HI
    iexact HR
  · iapply ((Entails.of_eq (bigSep_sep' Finset.univ (fun c : Dev nD => iprop((bigSep Finset.univ fun j => semVal ((c : Thread nD τ), .dma (inS j)) 0)
        ∗ (bigSep Finset.univ fun i : CI => atPos ER (kcell (c, i)) 0 ∅ 0))) pays).symm).trans
      (bigSep_mono fun c _ => show _ ⊢ begun c by
        unfold begun
        iintro ⟨⟨H1, H2⟩, H3⟩
        isplitl [H1]; · iexact H1
        isplitl [H2] <;> iassumption))
    isplitl [Hat]; · iexact Hat
    iexact Htok

/-- The semaphores of every device and what was dealt made the invariants, and the rights handed around. -/
theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (given X) :=
  ((bigSep_mono fun c _ => invariants X c).trans (bigSep_fupd _ _)).trans (BI.fupd_mono (regroup X))

/-! ## The credit -/

/-- What device `c` owes at its start: a unit to every other device, a row to every other device. -/
def owedAll (c : Dev nD) : CellTallies nD τ sig Unit := recvDue c 1 + barDue c 1

theorem sum_at {I : Type} [DecidableEq I] (S : Finset I) (g : I → GSem nD τ sig) (n : ℕ) (x : GSem nD τ sig) :
    (∑ i ∈ S, tallyAt (Ix := Unit) (g i) () n) x () = ∑ i ∈ S, if x = g i then n else 0 := by
  induction S using Finset.induction_on with
  | empty => rfl
  | insert i S hi ih =>
    rw [Finset.sum_insert hi, Finset.sum_insert hi, Pi.add_apply, Finsupp.add_apply, ih, tallyAt_apply]
    congr 1
    by_cases h : x = g i
    · rw [if_pos ⟨h, rfl⟩, if_pos h]
    · rw [if_neg (fun h' => h h'.1), if_neg h]

theorem bar_iff (a b : Dev nD) : barCell a = barCell b ↔ a = b :=
  ⟨fun h => congrArg (fun g : GSem nD τ sig => g.1.1) h, fun h => h ▸ rfl⟩
theorem recv_iff (a b : Dev nD) (k k' : Fin 16) : recvCell a k = recvCell b k' ↔ a = b ∧ k = k' :=
  ⟨fun h => by
    have := kcell_injective (a₁ := (a, some (true, k))) (a₂ := (b, some (true, k'))) h
    exact ⟨congrArg (fun x : Dev nD × CI => x.1) this, (Prod.mk.inj (Option.some.inj (Prod.mk.inj this).2)).2⟩, fun ⟨h, h'⟩ => h ▸ h' ▸ rfl⟩
theorem recv_bar (a b : Dev nD) (k : Fin 16) : recvCell a k ≠ barCell b :=
  fun h => by have := kcell_injective (a₁ := (a, some (true, k))) (a₂ := (b, none)) h; cases this

/-- Exactly one device is `k` places before `c`. -/
theorem one_before (c : Dev nD) (k : Fin 16) (n : ℕ) : (∑ d : Dev nD, if c = peer d k then n else 0) = n := by
  rw [Finset.sum_congr rfl fun d _ => if_congr (show c = peer d k ↔ d = back c k from
    ⟨fun h => h ▸ (back_peer d k).symm, fun h => h ▸ (peer_back c k).symm⟩) rfl rfl, Finset.sum_ite_eq' Finset.univ (back c k) fun _ => n,
    if_pos (Finset.mem_univ _)]

theorem launch_bar (c : Dev nD) :
    tallyOn (barCell c) (launchCredit (Pipeline.owing owedAll) 0 (barCell c)) = (tallyAt (barCell c) () 15 : CellTallies nD τ sig Unit) := by
  unfold tallyAt; refine congrArg _ (Finsupp.ext fun u => ?_); cases u
  rw [Pipeline.launchCredit_owing, Finsupp.single_eq_same]
  have h : ∀ d : Dev nD, owedAll d (barCell c) () = ∑ k ∈ since (K := 16) 1, if c = peer d k then 1 else 0 := by
    intro d
    unfold owedAll recvDue barDue
    rw [Pi.add_apply, Finsupp.add_apply, sum_at, sum_at, Finset.sum_eq_zero (fun k _ => if_neg (recv_bar _ _ _).symm), Nat.zero_add]
    exact Finset.sum_congr rfl fun k _ => if_congr (bar_iff _ _) rfl rfl
  rw [Finset.sum_congr rfl fun d _ => h d, Finset.sum_comm, Finset.sum_congr rfl fun k _ => one_before c k 1, Finset.sum_const, card_since_one]
  rfl

theorem launch_recv (c : Dev nD) (j : Fin 16) (hj : j ∈ since (K := 16) 1) :
    tallyOn (recvCell c j) (launchCredit (Pipeline.owing owedAll) 0 (recvCell c j)) = (tallyAt (recvCell c j) () N : CellTallies nD τ sig Unit) := by
  unfold tallyAt; refine congrArg _ (Finsupp.ext fun u => ?_); cases u
  rw [Pipeline.launchCredit_owing, Finsupp.single_eq_same]
  have h : ∀ d : Dev nD, owedAll d (recvCell c j) () = if c = peer d j then N else 0 := by
    intro d
    unfold owedAll recvDue barDue
    rw [Pi.add_apply, Finsupp.add_apply, sum_at, sum_at, Finset.sum_eq_zero (s := since 1) (f := fun k => if recvCell c j = barCell (peer d k) then 1 else 0)
      (fun k _ => if_neg (recv_bar _ _ _)), Nat.add_zero, Finset.sum_eq_single_of_mem j hj fun k _ hk => if_neg fun h => hk ((recv_iff _ _ _ _).mp h).2.symm]
    exact if_congr ⟨fun h => ((recv_iff _ _ _ _).mp h).1, fun h => (recv_iff _ _ _ _).mpr ⟨h, rfl⟩⟩ rfl rfl
  rw [Finset.sum_congr rfl fun d _ => h d, one_before]

theorem recvS_injOn : Set.InjOn (fun k : Fin 16 => (SemLoc.dma (recvS k) : SemLoc sig)) (since (K := 16) 1) := by
  intro k _ k' _ h
  have h' := csem_injective (a₁ := some (true, k)) (a₂ := some (true, k')) h
  exact (Prod.mk.inj (Option.some.inj h')).2

theorem credits (c : Dev nD) :
    (Pipeline.launchCred owedAll c : sProp 𝕄) ⊢ iprop(cred (tallyAt (barCell c) () 15) ∗ bigSep (since 1) fun k => cred (tallyAt (recvCell c k) () N)) := by
  have hsub : (since (K := 16) 1).image (fun k => (SemLoc.dma (recvS k) : SemLoc sig)) ⊆ Finset.univ.erase (SemLoc.reg barS : SemLoc sig) := by
    intro x hx
    obtain ⟨k, -, rfl⟩ := Finset.mem_image.mp hx
    exact Finset.mem_erase.mpr ⟨(by intro h; cases h), Finset.mem_univ _⟩
  unfold Pipeline.launchCred
  rw [bigSep_univ_at _ (SemLoc.reg barS), launch_bar]
  refine sep_mono_right ((bigSep_subset hsub).trans ?_)
  rw [bigSep_image_of_injOn recvS_injOn]
  exact Entails.of_eq (bigSep_congr fun k hk => congrArg cred (launch_recv c k hk))

end Cert.KernelIdeal.Exchange

end
-- ==== Proof.Run.lean ====
/-
  The run of the program: every execution ends, with the result computed, the argument unchanged and every semaphore at zero.
-/
module

public import proofs.«01_k».proof.Proof.Deal
public import Idealize.ShloMosaic.Lib.Pipeline.CollectiveSegs

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

/-! ## Into the body and out of it -/

section Ends
variable (X : Dev nD → Arr F)

/-- A family over the offsets, offset 0 apart. -/
theorem zero_apart (Φ : Fin 16 → sProp 𝕄) : bigSep Finset.univ Φ = iprop(Φ 0 ∗ bigSep (since 1) Φ) := by
  rw [univ_eq_insert, bigSep_ins zero_not_mem]

/-- The two cells of offset 0, that no transfer uses. -/
def idle (c : Dev nD) : sProp 𝕄 := iprop(atPos ER (sendCell c 0) 0 ∅ 0 ∗ atPos ER (recvCell c 0) 0 ∅ 0)

/-- The receive buffer's slots, each paired with the device that is to fill it. -/
theorem slots_start (c : Dev nD) (f : Buf (Elt F) (rLoc c)) :
    (rLoc c ↦{fullShare} f) ⊢ (iprop((∃ f : Buf (Elt F) (rLoc c), slotPts c 0 f) ∗ bigSep (since 1) fun k => iprop(∃ f, slotPts (F := F) c (opp k) f)) : sProp 𝕄) := by
  rw [slots_split, bigSep_univ_equiv oppE, zero_apart]
  have h : (bigSep (since 1) fun k => slotPts c (oppE k) f) ⊢ (bigSep (since 1) fun k => iprop(∃ f, slotPts (F := F) c (opp k) f) : sProp 𝕄) :=
    bigSep_mono fun k _ => show (slotPts c (opp k) f) ⊢ (iprop(∃ f, slotPts (F := F) c (opp k) f) : sProp 𝕄) by
      iintro H; iexists f; iexact H
  iintro ⟨H0, H⟩
  isplitl [H0]
  · iexists f; iexact H0
  · iapply h $$ H

/-- The argument, the working buffer and the semaphores, cut in the pieces to copy. -/
theorem pieces_start (c : Dev nD) (f : Buf (Elt F) (wLoc c)) :
    iprop((xLoc c ↦{fullShare} X c) ∗ (wLoc c ↦{fullShare} f) ∗ bigSep Finset.univ fun j => semVal ((c : Thread nD τ), .dma (inS j)) 0)
      ⊢ bigSep Finset.univ (piece₀ X c) := by
  rw [arg_split, work_split, ← bigSep_sep', ← bigSep_sep']
  refine bigSep_mono fun j _ => ?_
  show iprop((xLoc c ↦[chunkSet j]{fullShare} X c) ∗ (wLoc c ↦[chunkSet j]{fullShare} f) ∗ semVal ((c : Thread nD τ), .dma (inS j)) 0)
    ⊢ (piece₀ X c j : sProp 𝕄)
  unfold piece₀
  iintro ⟨H1, H2, H3⟩
  isplitl [H1]; · iexact H1
  isplitl [H2]; · iexists f; iexact H2
  iexact H3

theorem body_start (c : Dev nD) :
    iprop(begun (F := F) c ∗ (cred (tallyAt (barCell c) () 15) ∗ bigSep (since 1) fun k => cred (tallyAt (recvCell c k) () N)) ∗ (xLoc c ↦{fullShare} X c)
        ∗ Pipeline.scopedRest cfg0.spec c ∗ ∃ f : Buf (Elt F) (oLoc c), oLoc c ↦{fullShare} f)
      ⊢ iprop(atStart X c ∗ idle c) := by
  have hat : (bigSep Finset.univ fun i : CI => (atPos ER (kcell (c, i)) 0 ∅ 0 : sProp 𝕄)) = iprop(atPos ER (barCell c) 0 ∅ 0
      ∗ (bigSep Finset.univ fun k => atPos ER (sendCell c k) 0 ∅ 0) ∗ bigSep Finset.univ fun k => atPos ER (recvCell c k) 0 ∅ 0) := bigSep_cells _
  have hsig : bigSep (since 1) (sigRes (F := F) c) = iprop((bigSep (since 1) fun k => dutyTok ER (barCell (peer c k)) 0 (opp k))
      ∗ bigSep (since 1) fun k => iprop(∃ f, slotPts (F := F) c (opp k) f)) := bigSep_sep' _ _ _
  have hrcv : bigSep (since 1) (rcvRes (F := F) c) = iprop((bigSep (since 1) fun k => cred (tallyAt (recvCell c k) () N))
      ∗ bigSep (since 1) fun k => atPos ER (recvCell c k) 0 ∅ 0) := bigSep_sep' _ _ _
  have hout : ∀ f : Buf (Elt F) (oLoc c), (bigSep Finset.univ (outAt c f)) ⊢ (bigSep Finset.univ (outRaw c) : sProp 𝕄) := fun f =>
    bigSep_mono fun b _ => show (outAt c f b) ⊢ (outRaw c b : sProp 𝕄) by
      unfold outRaw outAt
      iintro H; iexists f; iexact H
  unfold begun pays atStart preSend idle
  rw [scopedRest0_eq, hat, hsig, hrcv, bigSep_sep', zero_apart fun k => (dutyTok ER (barCell (peer c k)) 0 (opp k) : sProp 𝕄),
    zero_apart fun k => (dutyTok ER (sendCell c k) 0 0 : sProp 𝕄), zero_apart fun k => (dutyTok ER (recvCell (peer c k) k) 0 0 : sProp 𝕄),
    zero_apart fun k => (atPos ER (sendCell c k) 0 ∅ 0 : sProp 𝕄), zero_apart fun k => (atPos ER (recvCell c k) 0 ∅ 0 : sProp 𝕄)]
  iintro ⟨⟨Hin, ⟨HaB, ⟨Ha0, HaS⟩, ⟨Hb0, HaR⟩⟩, ⟨-, HtB⟩, ⟨-, HtS⟩, ⟨-, HtR⟩⟩, ⟨HcB, HcR⟩, Hx, ⟨⟨%fw, Hw⟩, Hs, ⟨%fr, Hr⟩⟩, ⟨%fo, Ho⟩⟩
  ihave Hr := (slots_start c fr) $$ Hr
  icases Hr with ⟨Hr0, Hr⟩
  ihave Hp := (pieces_start X c fw) $$ [Hx Hw Hin]
  · isplitl [Hx]; · iexact Hx
    isplitl [Hw] <;> iassumption
  isplitr [Ha0 Hb0]
  · isplitl [HtB Hr]
    · isplitl [HtB] <;> iassumption
    isplitl [Hp]; · iexact Hp
    isplitl [Hs]; · iexact Hs
    isplitl [HcB HaB HtS HtR]
    · isplitl [HcB]; · iexact HcB
      isplitl [HaB]; · iexact HaB
      isplitl [HtS] <;> iassumption
    isplitl [Ho]
    · ihave Ho := (Entails.of_eq (out_split c fo)) $$ Ho
      iapply (hout fo) $$ Ho
    isplitl [HcR HaR]
    · isplitl [HcR] <;> iassumption
    isplitl [HaS]; · iexact HaS
    iexact Hr0
  · isplitl [Ha0] <;> iassumption

/-- The idle cells close at once. -/
theorem idle_close (K : Dev nD × CI → ℕ) (c : Dev nD) :
    iprop(records (rows X) K ∗ idle c) ⊢ (|={Set.univ}=> iprop(semVal (sendCell c 0) 0 ∗ semVal (recvCell c 0) 0) : sProp 𝕄) := by
  have hz : ∀ (g : GSem nD τ sig), (sched (rows X)).duties g 0 = ∅ → ∀ r, 0 ≤ r → (sched (rows X)).duties g r = ∅ := fun g h r _ =>
    match r with
    | 0 => h
    | r + 1 => duties_later (rows X) g (r + 1) (Nat.le_add_left _ _)
  unfold idle
  iintro ⟨#HR, Ha0, Hb0⟩
  ihave #H1 := (record_at (rows X) K (c, some (false, 0))) $$ HR
  ihave #H2 := (record_at (rows X) K (c, some (true, 0))) $$ HR
  icases H1 with ⟨#H1, -⟩
  icases H2 with ⟨#H2, -⟩
  imod (Rounds.cell_close ER (sched (rows X)) (Set.mem_univ (K (c, some (false, 0)))) (fun h => h) (R := 0) (hz (sendCell c 0) (duties_send_zero (rows X) c))) $$ [Ha0] with Hs0
  · isplitr; · iexact H1
    iexact Ha0
  imod (Rounds.cell_close ER (sched (rows X)) (Set.mem_univ (K (c, some (true, 0)))) (fun h => h) (R := 0) (hz (recvCell c 0) (duties_recv_zero (rows X) c))) $$ [Hb0] with Hr0
  · isplitr; · iexact H2
    iexact Hb0
  imodintro
  isplitl [Hs0] <;> iassumption

/-- What the body ends with, and the idle cells closed, are all the buffers and semaphores the device had. -/
theorem body_end (c : Dev nD) :
    iprop(atEnd X c ∗ semVal (sendCell c 0) 0 ∗ semVal (recvCell c 0) 0)
      ⊢ iprop(((unscopedSems0 c ∗ (xLoc c ↦{fullShare} X c))
          ∗ Pipeline.ownSems0 (Ix := Unit) (Name := ℕ) (U := UU) (Lvl := ℕ) (Val := Elt F) (τ := τ) osem c ∗ Pipeline.scopedRest cfg0.spec c)
        ∗ (oLoc c ↦{fullShare} result X c)) := by
  have hdone : bigSep (since 1) (doneRes (rows X) c) = iprop(bigSep (since 1) (rowPts (rows X) c) ∗ bigSep (since 1) fun k => semVal (sendCell c k) 0) :=
    bigSep_sep' _ _ _
  unfold atEnd
  rw [hdone, ← out_split, ownSems_eq, unscopedSems_eq, scopedRest0_eq, zero_apart fun k => (semVal (sendCell c k) 0 : sProp 𝕄),
    zero_apart fun k => (semVal (recvCell c k) 0 : sProp 𝕄)]
  iintro ⟨⟨⟨Hrow, HsS⟩, HsR, Hin, HsB, Hrow0, Hr, Hw, Hx, Ho⟩, Hs0, Hr0⟩
  isplitr [Ho]
  · isplitl [HsB Hx]
    · isplitl [HsB] <;> iassumption
    isplitl [Hin HsS HsR Hs0 Hr0]
    · isplitl [Hin]; · iexact Hin
      isplitl [HsS Hs0]
      · isplitl [Hs0] <;> iassumption
      isplitl [Hr0] <;> iassumption
    isplitl [Hw]
    · iexists X c; iexact Hw
    isplitr [Hr]
    · iexists rows X c
      iapply (Entails.of_eq (row_split (rows X) c).symm)
      iapply (Entails.of_eq (zero_apart (rowPts (rows X) c)).symm)
      isplitl [Hrow0] <;> iassumption
    iexact Hr
  iexact Ho

end Ends

/-! ## The launch -/

variable (m : (ℓ : Loc nD τ sig) → Buf (Elt F) ℓ) (ρ : Dev nD → PrngReg)

/-- The memory at launch. -/
abbrev s₀ : MemSt nD τ sig (Elt F) := ⟨m, fun _ => 0, ρ⟩

/-- Every device's argument. -/
def args (c : Dev nD) : Arr F := m ((c : Thread nD τ).loc main_arg0)

/-- What a device holds when the kernel is called, the kernel's own buffers beside. -/
def called (c : Dev nD) : sProp 𝕄 :=
  iprop(given (args m) c ∗ (cred (tallyAt (barCell c) () 15) ∗ bigSep (since 1) fun k => cred (tallyAt (recvCell c k) () N)) ∗ levAts L lv
    ∗ (xLoc c ↦{fullShare} args m c))
/-- What the body starts from, and what it ends with. -/
def Φ₀ (c : Dev nD) : sProp 𝕄 := iprop(called m c ∗ Pipeline.scopedRest cfg0.spec c)
def Φ₁ (c : Dev nD) : sProp 𝕄 := iprop((unscopedSems0 c ∗ (xLoc c ↦{fullShare} args m c))
  ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => result (args m) c
  Φ t := match t with
    | ⟨0, _⟩ => Φ₀ m c
    | ⟨_ + 1, _⟩ => Φ₁ m c
  q _ := fullShare
  owed t := match t with
    | ⟨0, _⟩ => owedAll c
    | ⟨_ + 1, _⟩ => 0

theorem bigSep_W (Φ : Fin cfg0.W → sProp 𝕄) : bigSep Finset.univ Φ = iprop(Φ (0 : Fin 1)) := bigSep_W0 Φ

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The result's staging buffer at contents `Y`. -/
abbrev stg (c : Dev nD) (Y : Arr F) : sProp 𝕄 :=
  iprop(∃ f : Buf (Elt F) (oLoc c), ⌜f = Y⌝ ∗ (oLoc c ↦{fullShare} f))

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole]
  show iprop(Φ₀ m c ∗ (dats m ρ 0 c).owesAt () (t0_0 : Fin cfg0.N).castSucc ∗ (∃ d, stg c ((dats m ρ 0 c).before (0 : Fin 1) t0_0 d)))
    ⊢ WP c (cc0_body xA (Memref.isWhole_whole _) oM (Memref.isWhole_whole _) wM (Memref.isWhole_whole _) sM (Memref.isWhole_whole _)
        rM (Memref.isWhole_whole _) cc0_scratch3 cc0_scratch4 cc0_scratch5)
      (fun _ => iprop(Φ₁ m c ∗ (dats m ρ 0 c).owesAt () (t0_0 : Fin cfg0.N).succ ∗ stg c (result (args m) c)))
  unfold Φ₀ called given Dat.owesAt Pipeline.owesWithin
  rw [show (dats m ρ 0 c).owed (t0_0 : Fin cfg0.N).castSucc = recvDue c 1 + barDue c 1 from rfl, show (dats m ρ 0 c).owed (t0_0 : Fin cfg0.N).succ = 0 from rfl]
  iintro ⟨⟨⟨⟨%K, #HR, HB⟩, Hcr, #Hlev, Hx⟩, Hsc⟩, ⟨%W, -, HO⟩, ⟨%d, %g, -, Ho⟩⟩
  ihave H := (body_start (args m) c) $$ [HB Hcr Hx Hsc Ho]
  · isplitl [HB]; · iexact HB
    isplitl [Hcr]; · iexact Hcr
    isplitl [Hx]; · iexact Hx
    isplitl [Hsc]; · iexact Hsc
    iexists g; iexact Ho
  icases H with ⟨HS, HI⟩
  imod (idle_close (args m) K c) $$ [HI] with HI
  · isplitr; · iexact HR
    iexact HI
  iapply (body_run (args m) K c) $$ [HS HO]
  · unfold Ctx
    isplitr [HS]
    · isplitr; · iexact HR
      isplitr; · iexact Hlev
      iexists W; iexact HO
    iexact HS
  unfold Ctx
  iintro ⟨⟨-, -, ⟨%W', HO⟩⟩, HE⟩
  ihave H := (body_end (args m) c) $$ [HE HI]
  · isplitl [HE] <;> iassumption
  icases H with ⟨H, Ho⟩
  isplitl [H]; · unfold Φ₁; iexact H
  isplitl [HO]
  · iexists W'
    isplitr; · ipureintro; exact fun _ _ => Or.inl trivial
    iexact HO
  iexists _; isplitr; · (ipureintro; rfl)
  iexact Ho

theorem share_full (c : Dev nD) (w : Fin cfg0.W) : (dats m ρ 0 c).share w = fullShare := by unfold Dat.share; split <;> rfl

theorem called_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ given (args m) c)
      ⊢ |={Set.univ}=> iprop(called m c ∗ emp) := by
  rw [Pipeline.unscopedRestP_none, unscopedRest0_eq]
  iintro ⟨Hx, Hlev, Hcr, -, HG⟩
  ihave Hc := (credits (F := F) c) $$ Hcr
  imodintro
  unfold called
  isplitl
  · isplitl [HG]; · iexact HG
    isplitl [Hc]; · iexact Hc
    isplitl [Hlev]; · iexact Hlev
    iexact Hx
  · iempintro

theorem enter (c : Dev nD) :
    iprop(called m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem stage_wait (c : Dev nD) (q : DmaSem sig) (hq : q.val < 25) (O : CellTallies nD τ sig Unit) (hO : O = owedAll c ∨ O = 0) :
    (levAts L lv : sProp 𝕄) ⊢ MayWait (c : Thread nD τ) (.dma q) () O := by
  rcases hO with rfl | rfl
  · exact mayWait_low c q hq 1 1
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w; fin_cases s; decide) _ (by
      rcases t with ⟨_ | _, ht⟩
      · exact Or.inl rfl
      · exact Or.inr rfl)

/-! ## The run -/

/-- The result's one block is the whole array, at its own place. -/
theorem whole_block (i : S2048x1024.Idx) : ((cfg0.win (0 : Fin 1)).blk t0_0).view.emb i = i := by
  have h : ∀ a, win0_0.index t0_0 a = 0 := by decide +kernel
  funext a
  apply Fin.ext
  show win0_0.index t0_0 a * win0_0.size a + 1 * (i a).val = (i a).val
  rw [h a, Nat.zero_mul, Nat.zero_add, Nat.one_mul]

/-- The result array after the run. -/
theorem final_result (c : Dev nD) : (dats m ρ 0 c).arrAt (0 : Fin 1) cfg0.N = result (args m) c := by
  refine (dats m ρ 0 c).arrAt_eq_of_cover (0 : Fin 1) (result (args m) c) (fun t _ => ?_) (fun i => ⟨t0_0, flush0_0 t0_0, ?_⟩)
  · rw [fin_N0 t]
    funext i
    show result (args m) c i = result (args m) c (((cfg0.win (0 : Fin 1)).blk t0_0).view.emb i)
    rw [whole_block]
  · have h := ((cfg0.win (0 : Fin 1)).blk t0_0).view.emb_mem_set i
    rwa [whole_block] at h

/-- What the end of the run says: every device's result, its argument unchanged, every semaphore at zero. -/
def Ends : PUnit × MemSt nD τ sig (Elt F) → Prop := fun r =>
  (∀ c : Dev nD, r.2.mem ((c : Thread nD τ).loc main_v1) = result (args m) c ∧ r.2.mem ((c : Thread nD τ).loc main_arg0) = m ((c : Thread nD τ).loc main_arg0))
    ∧ r.2.sem = fun _ => 0

/-- What is read of one device at the end: its argument, and its barrier at zero. -/
theorem read_end (c : Dev nD) (s' : Phys nD τ sig (Elt F)) :
    (iprop((unscopedSems0 c ∗ (xLoc c ↦{fullShare} args m c)) ∗ emp ∗ SI s') : sProp 𝕄)
      ⊢ |={Set.univ}=> iprop(⌜s'.mem.mem ((c : Thread nD τ).loc main_arg0) = m ((c : Thread nD τ).loc main_arg0)
          ∧ ∀ sm : SemLoc sig, sm.isScoped .tc = false → s'.mem.sem ((c.tc : Thread nD τ), sm) = 0⌝ ∗ SI s') := by
  iintro ⟨⟨Hu, Hx⟩, -, HSI⟩
  imod (Pipeline.unscopedSems0_read (X := unscopedSems0 c) (c := c) fupd_intro s') $$ [Hu HSI] with ⟨%hs, HSI⟩
  · isplitl [Hu] <;> iassumption
  icombine HSI Hx gives %hx
  imodintro
  isplitr
  · ipureintro
    exact ⟨funext fun i => hx i (Finset.mem_univ i), hs⟩
  iexact HSI

set_option maxRecDepth 8000 in
/-- From any memory with all semaphores at zero, every fair execution of the program on the 16 devices ends, and ends so. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owedAll) (howed₀ := fun _ => rfl) (howedN := fun _ => rfl)
    (L := L) (lv := lv) (hL := L_of_ne) (hwaits := waits m ρ)
    (G := dealt (args m)) (G' := given (args m)) (u₀ := u₀)
    (hu₀ := by
      have hd : (BI.own (embR (initOf exCells exRights, (1 : Counters))) : sProp 𝕄) ⊢ |==> bigSep Finset.univ (dealt (args m)) := deal (args m)
      unfold u₀
      iintro Hu
      ihave H := (ownU_pair _ _) $$ Hu
      icases H with ⟨HP, HX⟩
      imod hd $$ HX with HG
      imodintro
      isplitl [HP] <;> iassumption)
    (hglob := glob (args m))
    (hA := fun _ _ => rfl) (hpf := fun _ k => k.elim0)
    (X := called m) (Y := fun c => iprop(unscopedSems0 c ∗ (xLoc c ↦{fullShare} args m c))) (Z := fun _ => iprop(emp))
    (hX := called_intro m ρ) (hin := enter m ρ) (hout := fun _ => Entails.refl _)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_end m)
    (hQ := fun _ h hs => ⟨fun c => ⟨((h c).1 (0 : Fin 1)).trans (final_result m ρ c), (h c).2.2.1⟩, sem_eq_zero hs fun c => (h c).2.2.2⟩)

end Cert.KernelIdeal.Exchange

end
-- ==== Proof.Sums.lean ====
/-
  Sums of a column: prefixes of a sum, and a sum cut in blocks of equal length.
-/
module

public import proofs.«01_k».proof.Proof.Contents
public import Mathlib.Algebra.BigOperators.Intervals

@[expose] public section

noncomputable section

namespace Cert.KernelIdeal.Exchange

open Idealize.ShloMosaic

variable {M : Type*} [AddCommMonoid M]

/-- The sum of the terms below `m`, out of `n`, is the sum of a prefix. -/
theorem sum_below {n m : ℕ} (h : m ≤ n) (f : ℕ → M) : (∑ k : Fin n, if k.val < m then f k.val else 0) = ∑ k ∈ Finset.range m, f k := by
  rw [Fin.sum_univ_eq_sum_range (fun k => if k < m then f k else 0) n, ← Finset.sum_filter]
  congr 1
  ext k
  simp only [Finset.mem_filter, Finset.mem_range]
  omega

/-- A sum of `c` blocks of `n` terms, block by block. -/
theorem sum_blocks (f : ℕ → M) (n c : ℕ) : (∑ k ∈ Finset.range (n * c), f k) = ∑ d ∈ Finset.range c, ∑ r ∈ Finset.range n, f (n * d + r) := by
  induction c with
  | zero => rfl
  | succ c ih => rw [Nat.mul_succ, Finset.sum_range_add, Finset.sum_range_succ, ih]

/-- The terms at distance 1 to `c` below `c`, looked up by their distance among 16, are the terms below `c`. -/
theorem sum_distances {c : ℕ} (hc : c < 16) (g : ℕ → M) :
    (∑ k : Fin 16, if 1 ≤ k.val ∧ k.val ≤ c then g (c - k.val) else 0) = ∑ d ∈ Finset.range c, g d := by
  rw [Fin.sum_univ_eq_sum_range (fun k => if 1 ≤ k ∧ k ≤ c then g (c - k) else 0) 16, Finset.sum_range_succ',
    if_neg (fun h => Nat.not_succ_le_zero 0 h.1), add_zero, ← Finset.sum_range_reflect g c,
    ← sum_below (n := 15) (Nat.le_of_lt_succ hc), Fin.sum_univ_eq_sum_range (fun k => if k < c then g (c - 1 - k) else 0) 15]
  refine Finset.sum_congr rfl fun k _ => ?_
  by_cases h : k < c
  · rw [if_pos h, if_pos ⟨Nat.le_add_left _ _, h⟩, Nat.sub_sub, Nat.add_comm 1 k]
  · rw [if_neg h, if_neg fun h' => h h'.2]

/-- Eight terms, written out. -/
theorem sum_eight (f : ℕ → M) : (∑ d ∈ Finset.range 8, f d) = f 0 + f 1 + f 2 + f 3 + f 4 + f 5 + f 6 + f 7 := by
  simp only [Finset.sum_range_succ, Finset.sum_range_zero, zero_add]

/-- Small numbers compare as they do in 32-bit words. -/
theorem sle_small {a b : ℕ} (ha : a < 2 ^ 31) (hb : b < 2 ^ 31) : (BitVec.ofNat 32 a).sle (BitVec.ofNat 32 b) = decide (a ≤ b) := by
  have h : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  rw [BitVec.sle_eq_decide, h a ha, h b hb]
  simp only [Nat.cast_le]

/-- Choosing by a comparison `b ≤ a`. -/
theorem choose_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  have e : IntOp.cmpi .sge (BitVec.ofNat 32 a) (BitVec.ofNat 32 b) = BitVec.ofBool (decide (b ≤ a)) := by rw [← sle_small hb ha]; rfl
  rw [e]
  unfold Scalar.select
  by_cases h : b ≤ a <;> simp [h]

/-- Choosing by two comparisons, `b ≤ a` and `a ≤ d`. -/
theorem choose_between {α : Type} {a b d : ℕ} (ha : a < 2 ^ 31) (hb : b < 2 ^ 31) (hd : d < 2 ^ 31) (x y : α) :
    Scalar.select (IntOp.andi (IntOp.cmpi .sge (BitVec.ofNat 32 a) (BitVec.ofNat 32 b)) (IntOp.cmpi .sle (BitVec.ofNat 32 a) (BitVec.ofNat 32 d))) x y
      = if b ≤ a ∧ a ≤ d then x else y := by
  have e : IntOp.andi (IntOp.cmpi .sge (BitVec.ofNat 32 a) (BitVec.ofNat 32 b)) (IntOp.cmpi .sle (BitVec.ofNat 32 a) (BitVec.ofNat 32 d))
      = BitVec.ofBool (decide (b ≤ a)) &&& BitVec.ofBool (decide (a ≤ d)) := by rw [← sle_small hb ha, ← sle_small ha hd]; rfl
  rw [e]
  unfold Scalar.select
  by_cases h : b ≤ a <;> by_cases h' : a ≤ d <;> simp [h, h']

end Cert.KernelIdeal.Exchange

end
-- ==== Proof.Blocks.lean ====
/-
  What one device computes, over the extended reals: the running sums of a block, the sums of the blocks below it, the column totals.
-/
module

public import proofs.«01_k».proof.Proof.Sums
public import Idealize.ShloMosaic.Lib.Pointwise

@[expose] public section

noncomputable section

namespace Cert.KernelIdeal.Exchange

open Idealize.ShloMosaic
open Cert.KernelIdeal Cert.KernelIdeal.Gen

/-- Row `r` of column `q` of a device's array (zero beyond the last row). -/
def entry (x : Arr Ideal) (q : Fin 1024) (r : ℕ) : EReal := if h : r < 2048 then x (ix2 ⟨r, h⟩ q) else 0

theorem entry_at (x : Arr Ideal) (i : S2048x1024.Idx) {r : ℕ} (hr : r = (i 0).val) (q : Fin 1024) (hq : q = i 1) : entry x q r = x i := by
  subst hr hq
  have h : (i 0).val < 2048 := (i 0).isLt
  unfold entry
  rw [dif_pos h]
  congr 1
  funext a
  match a with
  | ⟨0, _⟩ => rfl
  | ⟨1, _⟩ => rfl

/-- A block's rows are rows of the array. -/
theorem block_at (x : Arr Ideal) (b : Fin 16) (i : S128x1024.Idx) : block x b i = entry x (i 1) (128 * b.val + (i 0).val) :=
  (entry_at x ((blockR b).emb i) (show 128 * b.val + (i 0).val = 128 * b.val + 1 * (i 0).val by omega) (i 1)
    (Fin.ext (show (i 1).val = 0 + 1 * (i 1).val by omega))).symm

/-- A piece's rows are rows of the array. -/
theorem chunk_at (x : Arr Ideal) (j : Fin 8) (i : S256x1024.Idx) : chunk x j i = entry x (i 1) (256 * j.val + (i 0).val) :=
  (entry_at x ((chunkR j).emb i) (show 256 * j.val + (i 0).val = 256 * j.val + 1 * (i 0).val by omega) (i 1)
    (Fin.ext (show (i 1).val = 0 + 1 * (i 1).val by omega))).symm

/-- The running sums within a block. -/
theorem scanned_at (x : Arr Ideal) (b : Fin 16) (i : S128x1024.Idx) :
    scanned x b i = ∑ k ∈ Finset.range ((i 0).val + 1), entry x (i 1) (128 * b.val + k) := by
  have hi : (i 0).val < 128 := (i 0).isLt
  unfold scanned
  pointwise [k0_pay8, k0_pay6]
  rw [← sum_below (n := 128) hi fun k => entry x (i 1) (128 * b.val + k)]
  refine Finset.sum_congr rfl fun k _ => ?_
  rw [choose_ge (by omega) (by have := k.isLt; omega), block_at]
  exact if_congr Nat.lt_succ_iff.symm rfl rfl

/-- The sum of the blocks below block `n`. -/
theorem carry_at (x : Arr Ideal) (n : ℕ) (hn : n ≤ 16) (i : S1x1024.Idx) : carry x n i = ∑ k ∈ Finset.range (128 * n), entry x (i 1) k := by
  induction n with
  | zero =>
    unfold carry
    pointwise [k0_pay7]
    rfl
  | succ n ih =>
    unfold carry
    pointwise []
    rw [ih (by omega), scanned_at, Nat.mul_succ, Finset.sum_range_add (entry x (i 1)) (128 * n) 128]
    exact congrArg (_ + ·) (Finset.sum_congr rfl fun k _ => congrArg (fun p => entry x (i 1) (128 * p + k)) (Nat.mod_eq_of_lt hn))

/-- The column totals. -/
theorem totals_at (x : Arr Ideal) (i : S1x1024.Idx) : totals x i = ∑ r ∈ Finset.range 2048, entry x (i 1) r := by
  have h : ∀ (j : Fin 8), (∑ k : Fin 256, chunk x j (ix2 k (i 1))) = ∑ r ∈ Finset.range 256, entry x (i 1) (256 * j.val + r) := fun j => by
    rw [← Fin.sum_univ_eq_sum_range (fun r => entry x (i 1) (256 * j.val + r)) 256]
    exact Finset.sum_congr rfl fun k _ => chunk_at x j (ix2 k (i 1))
  unfold totals
  pointwise [k0_pay2, k0_pay3, k0_pay4, k0_pay5]
  rw [h, h, h, h, h, h, h, h, show 2048 = 256 * 8 from rfl, sum_blocks (entry x (i 1)) 256 8, sum_eight]
  rfl

end Cert.KernelIdeal.Exchange

end
-- ==== Proof.Prefix.lean ====
/-
  What the result holds, over the extended reals: the running sums along all devices' rows.
-/
module

public import proofs.«01_k».proof.Proof.Blocks

@[expose] public section

noncomputable section

namespace Cert.KernelIdeal.Exchange

open Idealize.ShloMosaic
open Cert.KernelIdeal Cert.KernelIdeal.Gen

/-- A device's position, as the kernel reads it, is its number. -/
theorem place_eq (c : Dev nD) : place c = BitVec.ofNat 32 c.val := by revert c; decide

/-- The slot at offset `k` holds the totals of the device `k` places before. -/
theorem slot_at (X : Dev nD → Arr Ideal) (c : Dev nD) (k : Fin 16) (q : Fin 1024) :
    recvd (rows X) c (ix3 k 0 q) = ∑ r ∈ Finset.range 2048, entry (X (back c k)) q r :=
  totals_at (X (back c k)) (rowAt (ix3 k 0 q))

section Column
variable (X : Dev nD → Arr Ideal) (w : ℕ → EReal) (q : Fin 1024)
/- `w` is column `q` of all the devices' arrays, one after another. -/
variable (hw : ∀ (c : Dev nD) (r : ℕ), r < 2048 → entry (X c) q r = w (2048 * c.val + r))
include hw

/-- The sum of what the devices before `c` sent: of all the rows before `c`'s. -/
theorem before_at (c : Dev nD) (i : S1x1024.Idx) (hi : i 1 = q) : before X c i = ∑ k ∈ Finset.range (2048 * c.val), w k := by
  subst hi
  have hc : c.val < 16 := c.isLt
  unfold before
  rw [place_eq]
  pointwise [k0_pay39]
  rw [sum_blocks w 2048 c.val, ← sum_distances hc (fun d => (∑ r ∈ Finset.range 2048, w (2048 * d + r) : EReal))]
  apply Finset.sum_congr rfl
  intro k _
  have hk : k.val < 16 := k.isLt
  rw [choose_between (by omega) (by omega) (by omega)]
  by_cases h : 1 ≤ k.val ∧ k.val ≤ c.val
  · rw [if_pos h, if_pos h]
    have hb : (back c k).val = c.val - k.val := show (c.val + (16 - k.val)) % 16 = c.val - k.val by omega
    have hs : (∑ r ∈ Finset.range 2048, entry (X (back c k)) (i 1) r) = ∑ r ∈ Finset.range 2048, w (2048 * (c.val - k.val) + r) :=
      Finset.sum_congr rfl fun r hr => by rw [hw _ r (Finset.mem_range.mp hr), hb]
    exact (slot_at X c k (i 1)).trans hs
  · rw [if_neg h, if_neg h]

/-- The result: at each row, the sum of all the rows up to it. -/
theorem result_at (c : Dev nD) (i : S2048x1024.Idx) (hi : i 1 = q) :
    result X c i = ∑ k ∈ Finset.range (2048 * c.val + ((i 0).val + 1)), w k := by
  subst hi
  have hr : (i 0).val < 2048 := (i 0).isLt
  have hpre : ∀ n, n ≤ 2048 → (∑ k ∈ Finset.range n, entry (X c) (i 1) k) = ∑ k ∈ Finset.range n, w (2048 * c.val + k) := fun n hn =>
    Finset.sum_congr rfl fun k hk => hw c k (lt_of_lt_of_le (Finset.mem_range.mp hk) hn)
  have hcar : carry (X c) ((i 0).val / 128) (ix2 0 (i 1)) = ∑ k ∈ Finset.range (128 * ((i 0).val / 128)), entry (X c) (i 1) k :=
    carry_at (X c) ((i 0).val / 128) (by omega) (ix2 0 (i 1))
  rw [Finset.sum_range_add, ← hpre ((i 0).val + 1) hr, show (i 0).val + 1 = 128 * ((i 0).val / 128) + ((i 0).val % 128 + 1) by omega, Finset.sum_range_add,
    ← before_at X w (i 1) hw c (ix2 0 (i 1)) rfl, ← hcar]
  unfold result assemble pass₂
  pointwise [k0_pay41]
  rw [scanned_at, add_comm, add_assoc]
  rfl

end Column

end Cert.KernelIdeal.Exchange

end
-- ==== Proof.Reference.lean ====
/-
  What the reference computes, over the extended reals: at each row, the sum of the rows up to it.
-/
module

public import proofs.«01_k».proof.Proof.Gen.ReferenceIdeal
public import proofs.«01_k».proof.Proof.Sums
public import Idealize.ShloMosaic.Lib.Pointwise

@[expose] public section

noncomputable section

namespace Cert.ReferenceIdeal.Value

open Idealize.ShloMosaic
open Cert.ReferenceIdeal Cert.ReferenceIdeal.Gen
open Cert.KernelIdeal.Exchange (sum_below)

/-- The reference's array. -/
abbrev Whole : Type := S32768x1024.Idx → EReal

/-- The array's element in row `r` and column `q`: zero past the last row. -/
def element (A : Whole) (q : Fin 1024) (r : ℕ) : EReal := if h : r < 32768 then A (ix2 ⟨r, h⟩ q) else 0

/-- A fold that adds one term after another is the first value and the sum of the terms. -/
theorem foldl_sum {M : Type*} [AddCommMonoid M] {n : ℕ} (g : Fin n → M) (v : M) :
    (List.finRange n).foldl (fun r k => r + g k) v = v + ∑ k : Fin n, g k := by
  rw [Fin.sum_univ_def]
  generalize List.finRange n = l
  induction l generalizing v with
  | nil => exact (add_zero v).symm
  | cons k l ih => rw [List.foldl_cons, ih, List.map_cons, List.sum_cons, add_assoc]

/-- So is one over a shape's places, in their order. -/
theorem fold_places {M : Type*} [AddCommMonoid M] (W : Shape) (g : W.Idx → M) (v : M) :
    (List.finRange W.numel).foldl (fun r k => r + g (W.rowMajor.symm k)) v = v + ∑ p : W.Idx, g p := by
  rw [foldl_sum, Equiv.sum_comp W.rowMajor.symm g]

/-- A window's sum from zero: over the window's places, the element the place stands over, or nothing outside the operand. -/
theorem windows_at {s t : Shape} (window strides lo hi : Fin s.rank → ℕ) (x : s.Idx → EReal) (h : s.ReduceWindows window strides lo hi t) (j : t.Idx) :
    Ideal.hostReduceWindowAdd window strides lo hi h x 0 j = ∑ p : (⟨s.rank, window⟩ : Shape).Idx,
      if hin : ∀ a, lo a ≤ (j (a.cast h.1.symm)).val * strides a + (p a).val
          ∧ (j (a.cast h.1.symm)).val * strides a + (p a).val - lo a < s.size a then
        x fun a => ⟨(j (a.cast h.1.symm)).val * strides a + (p a).val - lo a, (hin a).2⟩
      else 0 :=
  Eq.trans (by
    unfold Ideal.hostReduceWindowAdd Host.reduceWindow
    dsimp only
    congr 1
    funext r k
    exact congrArg _ (dite_congr rfl (fun _ => rfl) fun _ => rfl)) ((fold_places ⟨s.rank, window⟩ _ 0).trans (zero_add _))

/-- The terms of a window that ends at row `j`, read from its first place to its last, are the rows up to `j`. -/
theorem window_sum {M : Type*} [AddCommMonoid M] {n j : ℕ} (hj : j ≤ n) (f : ℕ → M) :
    (∑ a : Fin (n + 1), if n ≤ j + a.val then f (j + a.val - n) else 0) = ∑ k ∈ Finset.range (j + 1), f k := by
  rw [Fin.sum_univ_eq_sum_range (fun a => if n ≤ j + a then f (j + a - n) else 0) (n + 1), show n + 1 = (n - j) + (j + 1) by omega,
    Finset.sum_range_add, Finset.sum_eq_zero (fun a ha => if_neg (by have := Finset.mem_range.mp ha; omega)), zero_add]
  exact Finset.sum_congr rfl fun k _ => by rw [if_pos (by omega)]; congr 1; omega

/-- The reference's result. -/
def sums (A : Whole) : Whole :=
  Host.reduceWindowAdd (F := Ideal) (φ := .f32) ![32768, 1] ![1, 1] ![32767, 0] ![0, 0] A (broadcastInDim S_ ![] Gen.facts.bcast_S_S_ (constant (F := Ideal) S_ .f32 0x00000000#32))
    Gen.facts.reduceWindows_S32768x1024_S32768x1024_w32768s1p32767_0_w1s1p0_0 Gen.facts.h_S_

/-- The term a window's place `p` adds to the result at `j`. -/
def place (A : Whole) (j : S32768x1024.Idx) (p : (⟨2, ![32768, 1]⟩ : Shape).Idx) : EReal :=
  if hin : ∀ a : Fin 2, (![32767, 0] : Fin 2 → ℕ) a ≤ (j a).val * (![1, 1] : Fin 2 → ℕ) a + (p a).val
      ∧ (j a).val * (![1, 1] : Fin 2 → ℕ) a + (p a).val - (![32767, 0] : Fin 2 → ℕ) a < S32768x1024.size a then
    A fun a => ⟨(j a).val * (![1, 1] : Fin 2 → ℕ) a + (p a).val - (![32767, 0] : Fin 2 → ℕ) a, (hin a).2⟩
  else 0

/-- That term is the row the place stands over, or nothing above the first row. -/
theorem place_at (A : Whole) (j : S32768x1024.Idx) (a : Fin 32768) :
    place A j (ix2 a 0) = if 32767 ≤ (j 0).val + a.val then element A (j 1) ((j 0).val + a.val - 32767) else 0 := by
  have h0 : (j 0).val < 32768 := (j 0).isLt
  have h1 : (j 1).val < 1024 := (j 1).isLt
  have ha : a.val < 32768 := a.isLt
  unfold place
  by_cases h : 32767 ≤ (j 0).val + a.val
  · rw [if_pos h, dif_pos (fun b => match b with
      | ⟨0, _⟩ => show 32767 ≤ (j 0).val * 1 + a.val ∧ (j 0).val * 1 + a.val - 32767 < 32768 by omega
      | ⟨1, _⟩ => show 0 ≤ (j 1).val * 1 + 0 ∧ (j 1).val * 1 + 0 - 0 < 1024 by omega)]
    unfold element
    rw [dif_pos (by omega)]
    refine congrArg A (funext fun b => Fin.ext ?_)
    match b with
    | ⟨0, _⟩ => exact show (j 0).val * 1 + a.val - 32767 = (j 0).val + a.val - 32767 by omega
    | ⟨1, _⟩ => exact show (j 1).val * 1 + 0 - 0 = (j 1).val by omega
  · rw [if_neg h, dif_neg]
    intro hin
    have := (hin 0).1
    exact h (by simpa using this)

/-- The reference's result at a row: the sum of all the rows up to it. -/
theorem sums_at (A : Whole) (j : S32768x1024.Idx) : sums A j = ∑ k ∈ Finset.range ((j 0).val + 1), element A (j 1) k := by
  have h0 : (j 0).val < 32768 := (j 0).isLt
  have h1 : (j 1).val < 1024 := (j 1).isLt
  have hz : broadcastInDim S_ ![] Gen.facts.bcast_S_S_ (constant (F := Ideal) S_ .f32 0x00000000#32) (Shape.Idx.first Gen.facts.h_S_) = (0 : EReal) := by
    pointwise
  rw [← window_sum (n := 32767) (Nat.le_of_lt_succ h0)]
  unfold sums Host.reduceWindowAdd
  rw [Ideal.hostReduceWindowAdd_def, hz]
  refine (windows_at _ _ _ _ A _ j).trans ?_
  refine (ValueIdx.sum_idx2 (place A j)).trans ?_
  refine Finset.sum_congr rfl fun a _ => ?_
  rw [Fin.sum_univ_one]
  exact place_at A j a

end Cert.ReferenceIdeal.Value

end
-- ==== Proof.Equation.lean ====
/-
  The equation: each device's result is its part of the reference's result.
-/
module

public import proofs.«01_k».proof.Proof.Prefix
public import proofs.«01_k».proof.Proof.Reference
public import Idealize.ShloMosaic.Lib.Layout

@[expose] public section

noncomputable section

namespace Cert.Proof

open Idealize.ShloMosaic
open Cert.KernelIdeal.Exchange (Arr entry result result_at)
open Cert.ReferenceIdeal.Value (Whole element sums sums_at)

/-- What device `c` holds of an array of the reference: the `c`-th of the sixteen parts it is cut into along its rows. -/
abbrev part (A : Whole) (c : Dev Cert.KernelIdeal.nD) : Cert.KernelIdeal.S2048x1024.Idx → EReal :=
  Layout.block ⟨2, ![2048, 1024]⟩ ⟨2, ![32768, 1024]⟩ 0 16 c A

/-- Where a part's index stands in the whole array. -/
abbrev spot (c : Dev Cert.KernelIdeal.nD) (i : Cert.KernelIdeal.S2048x1024.Idx) : Cert.ReferenceIdeal.S32768x1024.Idx :=
  (show Layout.Tiles ⟨2, ![2048, 1024]⟩ ⟨2, ![32768, 1024]⟩ 0 16 by decide).idx c i

/-- Its row counts the rows of the devices before. -/
theorem spot_row (c : Dev Cert.KernelIdeal.nD) (i : Cert.KernelIdeal.S2048x1024.Idx) : (spot c i 0).val = 2048 * c.val + (i 0).val :=
  congrArg (· + (i 0).val) (Nat.mul_comm c.val 2048)

/-- Its column is the same. -/
theorem spot_col (c : Dev Cert.KernelIdeal.nD) (i : Cert.KernelIdeal.S2048x1024.Idx) : spot c i 1 = i 1 := Fin.ext rfl

/-- An entry of a part is an element of the array. -/
theorem entry_part (A : Whole) (q : Fin 1024) (c : Dev Cert.KernelIdeal.nD) (r : ℕ) (hr : r < 2048) :
    entry (part A c) q r = element A q (2048 * c.val + r) := by
  have hc : c.val < 16 := c.isLt
  have hlt : 2048 * c.val + r < 32768 := by omega
  unfold entry element
  rw [dif_pos hr, dif_pos hlt]
  refine congrArg A (funext fun b => Fin.ext ?_)
  match b with
  | ⟨0, _⟩ => exact spot_row c (ix2 ⟨r, hr⟩ q)
  | ⟨1, _⟩ => rfl

/-- From the parts of an array, the kernel computes the parts of the array's running sums. -/
theorem result_part (A : Whole) (c : Dev Cert.KernelIdeal.nD) : result (F := Ideal) (part A) c = part (sums A) c := by
  funext i
  refine (result_at (part A) (element A (i 1)) (i 1) (entry_part A (i 1)) c i rfl).trans ?_
  refine Eq.trans ?_ (sums_at A (spot c i)).symm
  rw [spot_row, spot_col, Nat.add_assoc]

end Cert.Proof

end
-- ==== Proof.lean ====
/- The certificate: every claim, from the run of the kernel, the run of the reference, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem
open Cert.KernelIdeal.Exchange (result)
open Cert.ReferenceIdeal.Value (sums)

local instance factsKernel : Cert.Kernel.Facts := Cert.Kernel.Gen.facts
local instance factsKernelIdeal : Cert.KernelIdeal.Facts := Cert.KernelIdeal.Gen.facts
local instance factsReferenceIdeal : Cert.ReferenceIdeal.Facts := Cert.ReferenceIdeal.Gen.facts

/-- The kernel's functions are the same in both texts, label by label. -/
theorem bodies_same : Cert.Kernel.defs₀ (F := Bits) = Cert.KernelIdeal.defs₀ (F := Bits) :=
  congrArg Defs.onTc (funext fun l => funext fun a => match l, a with
    | 0, (_, _) => rfl)

/-- So are the two programs' tables of functions. -/
theorem defs_same : Cert.Kernel.defs (F := Bits) = Cert.KernelIdeal.defs (F := Bits) :=
  congrArg (Pipeline.defs Cert.Kernel.pcfgs) bodies_same

/-- The kernel, over bits: it has the text of the kernel over any floats. -/
theorem frame_kernel : Cert.quiescent_Kernel := by
  intro m ρ _
  rw [defs_same]
  exact (θ_run (Cert.KernelIdeal.defs (F := Bits)) _ _).mono (fun _ h => ⟨fun c => (h.1 c).2, h.2⟩) (Cert.KernelIdeal.Exchange.run_main (F := Bits) m ρ)

/-- The kernel, over the extended reals. -/
theorem frame_kernelIdeal : Cert.quiescent_KernelIdeal := fun m ρ _ =>
  (θ_run Cert.KernelIdeal.defs _ _).mono (fun _ h => ⟨fun c => (h.1 c).2, h.2⟩) (Cert.KernelIdeal.Exchange.run_main (F := Ideal) m ρ)

/-- The reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel, given the parts of an array, leaves the parts of what the reference leaves, given the array. -/
theorem algebraic : Cert.algebraic_KernelIdeal_ReferenceIdeal := by
  intro m g m' g' _ hparts
  refine ⟨sums (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h.1 c).1.trans ?_, (h.1 c).2⟩) (Cert.KernelIdeal.Exchange.run_main (F := Ideal) m g)
    exact (congrArg (fun X => result X c) (funext hparts)).trans (result_part _ c)
  · exact (θ_run Cert.ReferenceIdeal.defs _ _).mono (fun r h => h 0) (Cert.ReferenceIdeal.Value.run (F := Ideal) m' g')

/-- The certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
